-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_vocabulary [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_vocabulary [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel)
    ∧ quiescent_KernelIdeal (hKernelIdeal := hKernelIdeal)
    ∧ quiescent_KernelIdeal_pre_in_vocabulary (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal_pre_in_vocabulary (hKernelIdeal := hKernelIdeal) (hReferenceIdeal := hReferenceIdeal) (hPre_in_vocabulary := hPre_in_vocabulary)
-- ==== Pre_in_vocabulary.lean ====
abbrev S16384x64 : Shape := ⟨2, ![16384, 64]⟩
abbrev S16384 : Shape := ⟨1, ![16384]⟩
abbrev S1000x64 : Shape := ⟨2, ![1000, 64]⟩
abbrev S1000 : Shape := ⟨1, ![1000]⟩
abbrev S_ : Shape := ⟨0, ![]⟩

class Facts : Prop where
  bcast_S_S16384 : S_.BroadcastsInDim S16384 (![] : Fin 0 → Fin S16384.rank)
  bcast_S_S1000 : S_.BroadcastsInDim S1000 (![] : Fin 0 → Fin S1000.rank)

variable [Facts]

def fn {F : FTy → Type} [FloatOps F] (main_arg0 : FVec F S16384x64 .f32) (main_arg1 : IVec S16384 32) (main_arg2 : FVec F S1000x64 .f32) (main_arg3 : FVec F S1000 .f32) (main_arg4 : FVec F S1000 .f32) : IVec S16384 1 × IVec S1000 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_cst : FVec F S_ .f32 := constant S_ .f32 0x00000000#32
  let main_v5 : FVec F S1000 .f32 := broadcastInDim S1000 ![] bcast_S_S1000 main_cst
  let main_v6 : IVec S1000 1 := cmpf .oge main_arg4 main_v5
  (main_v4, main_v6)
-- ==== Kernel.lean ====
abbrev S16384x64 : Shape := ⟨2, ![16384, 64]⟩
abbrev S16384 : Shape := ⟨1, ![16384]⟩
abbrev S1000x64 : Shape := ⟨2, ![1000, 64]⟩
abbrev S1000 : Shape := ⟨1, ![1000]⟩
abbrev S_ : Shape := ⟨0, ![]⟩
abbrev S1 : Shape := ⟨1, ![1]⟩
abbrev S2 : Shape := ⟨1, ![2]⟩
abbrev S1x1x1 : Shape := ⟨3, ![1, 1, 1]⟩
abbrev S16384x50x1000 : Shape := ⟨3, ![16384, 50, 1000]⟩
abbrev S1x1x1000 : Shape := ⟨3, ![1, 1, 1000]⟩
abbrev S16384x50 : Shape := ⟨2, ![16384, 50]⟩
abbrev S16384x1 : Shape := ⟨2, ![16384, 1]⟩
abbrev S16384x51 : Shape := ⟨2, ![16384, 51]⟩
abbrev S64x1000 : Shape := ⟨2, ![64, 1000]⟩
abbrev S1x1000 : Shape := ⟨2, ![1, 1000]⟩
abbrev S1x1 : Shape := ⟨2, ![1, 1]⟩
abbrev S256x64 : Shape := ⟨2, ![256, 64]⟩
abbrev S256x51 : Shape := ⟨2, ![256, 51]⟩
abbrev S256x1000 : Shape := ⟨2, ![256, 1000]⟩
abbrev S256x1 : Shape := ⟨2, ![256, 1]⟩
abbrev S256 : Shape := ⟨1, ![256]⟩
abbrev S1x256x1 : Shape := ⟨3, ![1, 256, 1]⟩

abbrev nBuf : Space → Nat
  | .hbm => 309
  | .vmem => 8
  | .smem => 0
  | _ => 0

abbrev hbmTy0_0 (i : Nat) : BufTy := match i % 128 with
  | 0 => ⟨S16384x64, .f32⟩
  | 1 => ⟨S16384, .i32⟩
  | 2 => ⟨S1000x64, .f32⟩
  | 3 => ⟨S1000, .f32⟩
  | 4 => ⟨S1000, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S1000, .f32⟩
  | 16 => ⟨S_, .f32⟩
  | 17 => ⟨S_, .f32⟩
  | 18 => ⟨S_, .f32⟩
  | 19 => ⟨S1x1x1, .f32⟩
  | 20 => ⟨S1x1x1, .f32⟩
  | 21 => ⟨S1, .i32⟩
  | 22 => ⟨S_, .i32⟩
  | 23 => ⟨S1, .i32⟩
  | 24 => ⟨S_, .i32⟩
  | 25 => ⟨S16384x50x1000, .i64⟩
  | 26 => ⟨S16384x50x1000, .i64⟩
  | 27 => ⟨S16384x50x1000, .i64⟩
  | 28 => ⟨S_, .i64⟩
  | 29 => ⟨S16384x50x1000, .i64⟩
  | 30 => ⟨S16384x50x1000, .i64⟩
  | 31 => ⟨S_, .i64⟩
  | 32 => ⟨S16384x50x1000, .i64⟩
  | 33 => ⟨S16384x50x1000, .i64⟩
  | 34 => ⟨S_, .i64⟩
  | 35 => ⟨S16384x50x1000, .i64⟩
  | 36 => ⟨S16384x50x1000, .i64⟩
  | 37 => ⟨S16384x50x1000, .i64⟩
  | 38 => ⟨S16384x50x1000, .i64⟩
  | 39 => ⟨S_, .i64⟩
  | 40 => ⟨S16384x50x1000, .i64⟩
  | 41 => ⟨S16384x50x1000, .i64⟩
  | 42 => ⟨S16384x50x1000, .i32⟩
  | 43 => ⟨S16384x50x1000, .i32⟩
  | 44 => ⟨S_, .i32⟩
  | 45 => ⟨S_, .i32⟩
  | 46 => ⟨S_, .i32⟩
  | 47 => ⟨S16384x50x1000, .i32⟩
  | 48 => ⟨S16384x50x1000, .i32⟩
  | 49 => ⟨S16384x50x1000, .i32⟩
  | 50 => ⟨S16384x50x1000, .i32⟩
  | 51 => ⟨S16384x50x1000, .i32⟩
  | 52 => ⟨S_, .i32⟩
  | 53 => ⟨S16384x50x1000, .i32⟩
  | 54 => ⟨S16384x50x1000, .i32⟩
  | 55 => ⟨S_, .i32⟩
  | 56 => ⟨S16384x50x1000, .i32⟩
  | 57 => ⟨S16384x50x1000, .i32⟩
  | 58 => ⟨S16384x50x1000, .i32⟩
  | 59 => ⟨S16384x50x1000, .i32⟩
  | 60 => ⟨S16384x50x1000, .i32⟩
  | 61 => ⟨S_, .i32⟩
  | 62 => ⟨S16384x50x1000, .i32⟩
  | 63 => ⟨S16384x50x1000, .i32⟩
  | 64 => ⟨S_, .i32⟩
  | 65 => ⟨S16384x50x1000, .i32⟩
  | 66 => ⟨S16384x50x1000, .i32⟩
  | 67 => ⟨S16384x50x1000, .i32⟩
  | 68 => ⟨S16384x50x1000, .i32⟩
  | 69 => ⟨S16384x50x1000, .i32⟩
  | 70 => ⟨S_, .i32⟩
  | 71 => ⟨S16384x50x1000, .i32⟩
  | 72 => ⟨S16384x50x1000, .i32⟩
  | 73 => ⟨S_, .i32⟩
  | 74 => ⟨S16384x50x1000, .i32⟩
  | 75 => ⟨S16384x50x1000, .i32⟩
  | 76 => ⟨S16384x50x1000, .i32⟩
  | 77 => ⟨S16384x50x1000, .i32⟩
  | 78 => ⟨S16384x50x1000, .i32⟩
  | 79 => ⟨S_, .i32⟩
  | 80 => ⟨S16384x50x1000, .i32⟩
  | 81 => ⟨S16384x50x1000, .i32⟩
  | 82 => ⟨S_, .i32⟩
  | 83 => ⟨S16384x50x1000, .i32⟩
  | 84 => ⟨S16384x50x1000, .i32⟩
  | 85 => ⟨S16384x50x1000, .i32⟩
  | 86 => ⟨S16384x50x1000, .i32⟩
  | 87 => ⟨S16384x50x1000, .i32⟩
  | 88 => ⟨S16384x50x1000, .i32⟩
  | 89 => ⟨S16384x50x1000, .i32⟩
  | 90 => ⟨S16384x50x1000, .i32⟩
  | 91 => ⟨S_, .i32⟩
  | 92 => ⟨S16384x50x1000, .i32⟩
  | 93 => ⟨S16384x50x1000, .i32⟩
  | 94 => ⟨S16384x50x1000, .i32⟩
  | 95 => ⟨S_, .i32⟩
  | 96 => ⟨S16384x50x1000, .i32⟩
  | 97 => ⟨S16384x50x1000, .i32⟩
  | 98 => ⟨S_, .i32⟩
  | 99 => ⟨S16384x50x1000, .i32⟩
  | 100 => ⟨S16384x50x1000, .i32⟩
  | 101 => ⟨S16384x50x1000, .i32⟩
  | 102 => ⟨S16384x50x1000, .i32⟩
  | 103 => ⟨S16384x50x1000, .i32⟩
  | 104 => ⟨S_, .i32⟩
  | 105 => ⟨S16384x50x1000, .i32⟩
  | 106 => ⟨S16384x50x1000, .i32⟩
  | 107 => ⟨S_, .i32⟩
  | 108 => ⟨S16384x50x1000, .i32⟩
  | 109 => ⟨S16384x50x1000, .i32⟩
  | 110 => ⟨S16384x50x1000, .i32⟩
  | 111 => ⟨S16384x50x1000, .i32⟩
  | 112 => ⟨S16384x50x1000, .i32⟩
  | 113 => ⟨S_, .i32⟩
  | 114 => ⟨S16384x50x1000, .i32⟩
  | 115 => ⟨S16384x50x1000, .i32⟩
  | 116 => ⟨S_, .i32⟩
  | 117 => ⟨S16384x50x1000, .i32⟩
  | 118 => ⟨S16384x50x1000, .i32⟩
  | 119 => ⟨S16384x50x1000, .i32⟩
  | 120 => ⟨S16384x50x1000, .i32⟩
  | 121 => ⟨S16384x50x1000, .i32⟩
  | 122 => ⟨S_, .i32⟩
  | 123 => ⟨S16384x50x1000, .i32⟩
  | 124 => ⟨S16384x50x1000, .i32⟩
  | 125 => ⟨S_, .i32⟩
  | 126 => ⟨S16384x50x1000, .i32⟩
  | 127 => ⟨S16384x50x1000, .i32⟩
  | _ => ⟨S16384x64, .f32⟩

abbrev hbmTy0_1 (i : Nat) : BufTy := match i % 128 with
  | 0 => ⟨S16384x50x1000, .i32⟩
  | 1 => ⟨S16384x50x1000, .i32⟩
  | 2 => ⟨S16384x50x1000, .i32⟩
  | 3 => ⟨S16384x50x1000, .i32⟩
  | 4 => ⟨S16384x50x1000, .i32⟩
  | 5 => ⟨S16384x50x1000, .i32⟩
  | 6 => ⟨S_, .i32⟩
  | 7 => ⟨S16384x50x1000, .i32⟩
  | 8 => ⟨S16384x50x1000, .i32⟩
  | 9 => ⟨S16384x50x1000, .i32⟩
  | 10 => ⟨S_, .i32⟩
  | 11 => ⟨S16384x50x1000, .i32⟩
  | 12 => ⟨S16384x50x1000, .i32⟩
  | 13 => ⟨S_, .i32⟩
  | 14 => ⟨S16384x50x1000, .i32⟩
  | 15 => ⟨S16384x50x1000, .i32⟩
  | 16 => ⟨S16384x50x1000, .i32⟩
  | 17 => ⟨S16384x50x1000, .i32⟩
  | 18 => ⟨S16384x50x1000, .i32⟩
  | 19 => ⟨S_, .i32⟩
  | 20 => ⟨S16384x50x1000, .i32⟩
  | 21 => ⟨S16384x50x1000, .i32⟩
  | 22 => ⟨S_, .i32⟩
  | 23 => ⟨S16384x50x1000, .i32⟩
  | 24 => ⟨S16384x50x1000, .i32⟩
  | 25 => ⟨S16384x50x1000, .i32⟩
  | 26 => ⟨S16384x50x1000, .i32⟩
  | 27 => ⟨S16384x50x1000, .i32⟩
  | 28 => ⟨S_, .i32⟩
  | 29 => ⟨S16384x50x1000, .i32⟩
  | 30 => ⟨S16384x50x1000, .i32⟩
  | 31 => ⟨S_, .i32⟩
  | 32 => ⟨S16384x50x1000, .i32⟩
  | 33 => ⟨S16384x50x1000, .i32⟩
  | 34 => ⟨S16384x50x1000, .i32⟩
  | 35 => ⟨S16384x50x1000, .i32⟩
  | 36 => ⟨S16384x50x1000, .i32⟩
  | 37 => ⟨S_, .i32⟩
  | 38 => ⟨S16384x50x1000, .i32⟩
  | 39 => ⟨S16384x50x1000, .i32⟩
  | 40 => ⟨S_, .i32⟩
  | 41 => ⟨S16384x50x1000, .i32⟩
  | 42 => ⟨S16384x50x1000, .i32⟩
  | 43 => ⟨S16384x50x1000, .i32⟩
  | 44 => ⟨S16384x50x1000, .i32⟩
  | 45 => ⟨S16384x50x1000, .i32⟩
  | 46 => ⟨S16384x50x1000, .i32⟩
  | 47 => ⟨S16384x50x1000, .i32⟩
  | 48 => ⟨S16384x50x1000, .i32⟩
  | 49 => ⟨S_, .i32⟩
  | 50 => ⟨S16384x50x1000, .i32⟩
  | 51 => ⟨S16384x50x1000, .i32⟩
  | 52 => ⟨S16384x50x1000, .i32⟩
  | 53 => ⟨S_, .i32⟩
  | 54 => ⟨S16384x50x1000, .i32⟩
  | 55 => ⟨S16384x50x1000, .i32⟩
  | 56 => ⟨S_, .i32⟩
  | 57 => ⟨S16384x50x1000, .i32⟩
  | 58 => ⟨S16384x50x1000, .i32⟩
  | 59 => ⟨S16384x50x1000, .i32⟩
  | 60 => ⟨S16384x50x1000, .i32⟩
  | 61 => ⟨S16384x50x1000, .i32⟩
  | 62 => ⟨S_, .i32⟩
  | 63 => ⟨S16384x50x1000, .i32⟩
  | 64 => ⟨S16384x50x1000, .i32⟩
  | 65 => ⟨S_, .i32⟩
  | 66 => ⟨S16384x50x1000, .i32⟩
  | 67 => ⟨S16384x50x1000, .i32⟩
  | 68 => ⟨S16384x50x1000, .i32⟩
  | 69 => ⟨S16384x50x1000, .i32⟩
  | 70 => ⟨S16384x50x1000, .i32⟩
  | 71 => ⟨S_, .i32⟩
  | 72 => ⟨S16384x50x1000, .i32⟩
  | 73 => ⟨S16384x50x1000, .i32⟩
  | 74 => ⟨S_, .i32⟩
  | 75 => ⟨S16384x50x1000, .i32⟩
  | 76 => ⟨S16384x50x1000, .i32⟩
  | 77 => ⟨S16384x50x1000, .i32⟩
  | 78 => ⟨S16384x50x1000, .i32⟩
  | 79 => ⟨S16384x50x1000, .i32⟩
  | 80 => ⟨S_, .i32⟩
  | 81 => ⟨S16384x50x1000, .i32⟩
  | 82 => ⟨S16384x50x1000, .i32⟩
  | 83 => ⟨S_, .i32⟩
  | 84 => ⟨S16384x50x1000, .i32⟩
  | 85 => ⟨S16384x50x1000, .i32⟩
  | 86 => ⟨S16384x50x1000, .i32⟩
  | 87 => ⟨S16384x50x1000, .i32⟩
  | 88 => ⟨S16384x50x1000, .i32⟩
  | 89 => ⟨S16384x50x1000, .i32⟩
  | 90 => ⟨S16384x50x1000, .i32⟩
  | 91 => ⟨S16384x50x1000, .i32⟩
  | 92 => ⟨S_, .i32⟩
  | 93 => ⟨S16384x50x1000, .i32⟩
  | 94 => ⟨S16384x50x1000, .i32⟩
  | 95 => ⟨S16384x50x1000, .i32⟩
  | 96 => ⟨S_, .i32⟩
  | 97 => ⟨S16384x50x1000, .i32⟩
  | 98 => ⟨S16384x50x1000, .i32⟩
  | 99 => ⟨S_, .i32⟩
  | 100 => ⟨S16384x50x1000, .i32⟩
  | 101 => ⟨S16384x50x1000, .i32⟩
  | 102 => ⟨S16384x50x1000, .i32⟩
  | 103 => ⟨S16384x50x1000, .i32⟩
  | 104 => ⟨S16384x50x1000, .i32⟩
  | 105 => ⟨S_, .i32⟩
  | 106 => ⟨S16384x50x1000, .i32⟩
  | 107 => ⟨S16384x50x1000, .i32⟩
  | 108 => ⟨S_, .i32⟩
  | 109 => ⟨S16384x50x1000, .i32⟩
  | 110 => ⟨S16384x50x1000, .i32⟩
  | 111 => ⟨S16384x50x1000, .i32⟩
  | 112 => ⟨S16384x50x1000, .i32⟩
  | 113 => ⟨S16384x50x1000, .i32⟩
  | 114 => ⟨S_, .i32⟩
  | 115 => ⟨S16384x50x1000, .i32⟩
  | 116 => ⟨S16384x50x1000, .i32⟩
  | 117 => ⟨S_, .i32⟩
  | 118 => ⟨S16384x50x1000, .i32⟩
  | 119 => ⟨S16384x50x1000, .i32⟩
  | 120 => ⟨S16384x50x1000, .i32⟩
  | 121 => ⟨S16384x50x1000, .i32⟩
  | 122 => ⟨S16384x50x1000, .i32⟩
  | 123 => ⟨S_, .i32⟩
  | 124 => ⟨S16384x50x1000, .i32⟩
  | 125 => ⟨S16384x50x1000, .i32⟩
  | 126 => ⟨S_, .i32⟩
  | 127 => ⟨S16384x50x1000, .i32⟩
  | _ => ⟨S16384x64, .f32⟩

abbrev hbmTy0_2 (i : Nat) : BufTy := match i % 128 with
  | 0 => ⟨S16384x50x1000, .i32⟩
  | 1 => ⟨S16384x50x1000, .i32⟩
  | 2 => ⟨S16384x50x1000, .i32⟩
  | 3 => ⟨S16384x50x1000, .i32⟩
  | 4 => ⟨S16384x50x1000, .i32⟩
  | 5 => ⟨S16384x50x1000, .i32⟩
  | 6 => ⟨S16384x50x1000, .i32⟩
  | 7 => ⟨S_, .i32⟩
  | 8 => ⟨S16384x50x1000, .i32⟩
  | 9 => ⟨S16384x50x1000, .i32⟩
  | 10 => ⟨S16384x50x1000, .i32⟩
  | 11 => ⟨S_, .i32⟩
  | 12 => ⟨S16384x50x1000, .i32⟩
  | 13 => ⟨S16384x50x1000, .i32⟩
  | 14 => ⟨S_, .i32⟩
  | 15 => ⟨S16384x50x1000, .i32⟩
  | 16 => ⟨S16384x50x1000, .i32⟩
  | 17 => ⟨S16384x50x1000, .f32⟩
  | 18 => ⟨S_, .f32⟩
  | 19 => ⟨S16384x50x1000, .f32⟩
  | 20 => ⟨S16384x50x1000, .f32⟩
  | 21 => ⟨S1x1x1, .f32⟩
  | 22 => ⟨S16384x50x1000, .f32⟩
  | 23 => ⟨S16384x50x1000, .f32⟩
  | 24 => ⟨S16384x50x1000, .f32⟩
  | 25 => ⟨S16384x50x1000, .f32⟩
  | 26 => ⟨S16384x50x1000, .f32⟩
  | 27 => ⟨S16384x50x1000, .f32⟩
  | 28 => ⟨S16384x50x1000, .f32⟩
  | 29 => ⟨S16384x50x1000, .f32⟩
  | 30 => ⟨S16384x50x1000, .f32⟩
  | 31 => ⟨S16384x50x1000, .f32⟩
  | 32 => ⟨S1x1x1000, .f32⟩
  | 33 => ⟨S16384x50x1000, .f32⟩
  | 34 => ⟨S16384x50x1000, .f32⟩
  | 35 => ⟨S16384x50x1000, .i32⟩
  | 36 => ⟨S_, .f32⟩
  | 37 => ⟨S_, .i32⟩
  | 38 => ⟨S16384x50, .f32⟩
  | 39 => ⟨S16384x50, .i32⟩
  | 40 => ⟨S16384x1, .i32⟩
  | 41 => ⟨S16384x51, .i32⟩
  | 42 => ⟨S64x1000, .f32⟩
  | 43 => ⟨S1x1000, .f32⟩
  | 44 => ⟨S_, .f32⟩
  | 45 => ⟨S1000, .f32⟩
  | 46 => ⟨S1000, .f32⟩
  | 47 => ⟨S1x1000, .f32⟩
  | 48 => ⟨S1x1, .f32⟩
  | 49 => ⟨S_, .f32⟩
  | 50 => ⟨S_, .f32⟩
  | 51 => ⟨S_, .f32⟩
  | 52 => ⟨S_, .f32⟩
  | _ => ⟨S16384x64, .f32⟩

abbrev hbmTy (i : Nat) : BufTy := match i / 128 with
  | 0 => hbmTy0_0 i
  | 1 => hbmTy0_1 i
  | 2 => hbmTy0_2 i
  | _ => ⟨S16384x64, .f32⟩

abbrev bufTy : (tb : Table) → Fin (tcTables nBuf tb) → BufTy
  | .hbm, ⟨i, _⟩ => hbmTy i
  | .local _ .vmem, ⟨0, _⟩ => ⟨S256x64, .f32⟩
  | .local _ .vmem, ⟨1, _⟩ => ⟨S256x64, .f32⟩
  | .local _ .vmem, ⟨2, _⟩ => ⟨S64x1000, .f32⟩
  | .local _ .vmem, ⟨3, _⟩ => ⟨S1x1000, .f32⟩
  | .local _ .vmem, ⟨4, _⟩ => ⟨S1x1000, .f32⟩
  | .local _ .vmem, ⟨5, _⟩ => ⟨S256x51, .i32⟩
  | .local _ .vmem, ⟨6, _⟩ => ⟨S256x51, .i32⟩
  | .local _ .vmem, ⟨7, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_cst_0 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_c : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_c_0 : Ref sig .tc := ⟨.hbm, 31, rfl⟩
abbrev main_call0_call0_v12 : Ref sig .tc := ⟨.hbm, 32, rfl⟩
abbrev main_call0_call0_v13 : Ref sig .tc := ⟨.hbm, 33, rfl⟩
abbrev main_call0_call0_c_1 : Ref sig .tc := ⟨.hbm, 34, rfl⟩
abbrev main_call0_call0_v14 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_v17 : Ref sig .tc := ⟨.hbm, 38, rfl⟩
abbrev main_call0_call0_c_2 : Ref sig .tc := ⟨.hbm, 39, rfl⟩
abbrev main_call0_call0_v18 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_call0_call0_call0_v0 : Ref sig .tc := ⟨.hbm, 44, rfl⟩
abbrev main_call0_call0_call0_c : Ref sig .tc := ⟨.hbm, 45, rfl⟩
abbrev main_call0_call0_call0_v1 : Ref sig .tc := ⟨.hbm, 46, rfl⟩
abbrev main_call0_call0_call0_v2 : Ref sig .tc := ⟨.hbm, 47, rfl⟩
abbrev main_call0_call0_call0_v3 : Ref sig .tc := ⟨.hbm, 48, rfl⟩
abbrev main_call0_call0_call0_v4 : Ref sig .tc := ⟨.hbm, 49, rfl⟩
abbrev main_call0_call0_call0_v5 : Ref sig .tc := ⟨.hbm, 50, rfl⟩
abbrev main_call0_call0_call0_v6 : Ref sig .tc := ⟨.hbm, 51, rfl⟩
abbrev main_call0_call0_call0_c_0 : Ref sig .tc := ⟨.hbm, 52, rfl⟩
abbrev main_call0_call0_call0_v7 : Ref sig .tc := ⟨.hbm, 53, rfl⟩
abbrev main_call0_call0_call0_v8 : Ref sig .tc := ⟨.hbm, 54, rfl⟩
abbrev main_call0_call0_call0_c_1 : Ref sig .tc := ⟨.hbm, 55, rfl⟩
abbrev main_call0_call0_call0_v9 : Ref sig .tc := ⟨.hbm, 56, rfl⟩
abbrev main_call0_call0_call0_v10 : Ref sig .tc := ⟨.hbm, 57, rfl⟩
abbrev main_call0_call0_call0_v11 : Ref sig .tc := ⟨.hbm, 58, rfl⟩
abbrev main_call0_call0_call0_v12 : Ref sig .tc := ⟨.hbm, 59, rfl⟩
abbrev main_call0_call0_call0_v13 : Ref sig .tc := ⟨.hbm, 60, rfl⟩
abbrev main_call0_call0_call0_c_2 : Ref sig .tc := ⟨.hbm, 61, rfl⟩
abbrev main_call0_call0_call0_v14 : Ref sig .tc := ⟨.hbm, 62, rfl⟩
abbrev main_call0_call0_call0_v15 : Ref sig .tc := ⟨.hbm, 63, rfl⟩
abbrev main_call0_call0_call0_c_3 : Ref sig .tc := ⟨.hbm, 64, rfl⟩
abbrev main_call0_call0_call0_v16 : Ref sig .tc := ⟨.hbm, 65, rfl⟩
abbrev main_call0_call0_call0_v17 : Ref sig .tc := ⟨.hbm, 66, rfl⟩
abbrev main_call0_call0_call0_v18 : Ref sig .tc := ⟨.hbm, 67, rfl⟩
abbrev main_call0_call0_call0_v19 : Ref sig .tc := ⟨.hbm, 68, rfl⟩
abbrev main_call0_call0_call0_v20 : Ref sig .tc := ⟨.hbm, 69, rfl⟩
abbrev main_call0_call0_call0_c_4 : Ref sig .tc := ⟨.hbm, 70, rfl⟩
abbrev main_call0_call0_call0_v21 : Ref sig .tc := ⟨.hbm, 71, rfl⟩
abbrev main_call0_call0_call0_v22 : Ref sig .tc := ⟨.hbm, 72, rfl⟩
abbrev main_call0_call0_call0_c_5 : Ref sig .tc := ⟨.hbm, 73, rfl⟩
abbrev main_call0_call0_call0_v23 : Ref sig .tc := ⟨.hbm, 74, rfl⟩
abbrev main_call0_call0_call0_v24 : Ref sig .tc := ⟨.hbm, 75, rfl⟩
abbrev main_call0_call0_call0_v25 : Ref sig .tc := ⟨.hbm, 76, rfl⟩
abbrev main_call0_call0_call0_v26 : Ref sig .tc := ⟨.hbm, 77, rfl⟩
abbrev main_call0_call0_call0_v27 : Ref sig .tc := ⟨.hbm, 78, rfl⟩
abbrev main_call0_call0_call0_c_6 : Ref sig .tc := ⟨.hbm, 79, rfl⟩
abbrev main_call0_call0_call0_v28 : Ref sig .tc := ⟨.hbm, 80, rfl⟩
abbrev main_call0_call0_call0_v29 : Ref sig .tc := ⟨.hbm, 81, rfl⟩
abbrev main_call0_call0_call0_c_7 : Ref sig .tc := ⟨.hbm, 82, rfl⟩
abbrev main_call0_call0_call0_v30 : Ref sig .tc := ⟨.hbm, 83, rfl⟩
abbrev main_call0_call0_call0_v31 : Ref sig .tc := ⟨.hbm, 84, rfl⟩
abbrev main_call0_call0_call0_v32 : Ref sig .tc := ⟨.hbm, 85, rfl⟩
abbrev main_call0_call0_call0_v33 : Ref sig .tc := ⟨.hbm, 86, rfl⟩
abbrev main_call0_call0_call0_v34 : Ref sig .tc := ⟨.hbm, 87, rfl⟩
abbrev main_call0_call0_call0_v35 : Ref sig .tc := ⟨.hbm, 88, rfl⟩
abbrev main_call0_call0_call0_v36 : Ref sig .tc := ⟨.hbm, 89, rfl⟩
abbrev main_call0_call0_call0_v37 : Ref sig .tc := ⟨.hbm, 90, rfl⟩
abbrev main_call0_call0_call0_c_8 : Ref sig .tc := ⟨.hbm, 91, rfl⟩
abbrev main_call0_call0_call0_v38 : Ref sig .tc := ⟨.hbm, 92, rfl⟩
abbrev main_call0_call0_call0_v39 : Ref sig .tc := ⟨.hbm, 93, rfl⟩
abbrev main_call0_call0_call0_v40 : Ref sig .tc := ⟨.hbm, 94, rfl⟩
abbrev main_call0_call0_call0_c_9 : Ref sig .tc := ⟨.hbm, 95, rfl⟩
abbrev main_call0_call0_call0_v41 : Ref sig .tc := ⟨.hbm, 96, rfl⟩
abbrev main_call0_call0_call0_v42 : Ref sig .tc := ⟨.hbm, 97, rfl⟩
abbrev main_call0_call0_call0_c_10 : Ref sig .tc := ⟨.hbm, 98, rfl⟩
abbrev main_call0_call0_call0_v43 : Ref sig .tc := ⟨.hbm, 99, rfl⟩
abbrev main_call0_call0_call0_v44 : Ref sig .tc := ⟨.hbm, 100, rfl⟩
abbrev main_call0_call0_call0_v45 : Ref sig .tc := ⟨.hbm, 101, rfl⟩
abbrev main_call0_call0_call0_v46 : Ref sig .tc := ⟨.hbm, 102, rfl⟩
abbrev main_call0_call0_call0_v47 : Ref sig .tc := ⟨.hbm, 103, rfl⟩
abbrev main_call0_call0_call0_c_11 : Ref sig .tc := ⟨.hbm, 104, rfl⟩
abbrev main_call0_call0_call0_v48 : Ref sig .tc := ⟨.hbm, 105, rfl⟩
abbrev main_call0_call0_call0_v49 : Ref sig .tc := ⟨.hbm, 106, rfl⟩
abbrev main_call0_call0_call0_c_12 : Ref sig .tc := ⟨.hbm, 107, rfl⟩
abbrev main_call0_call0_call0_v50 : Ref sig .tc := ⟨.hbm, 108, rfl⟩
abbrev main_call0_call0_call0_v51 : Ref sig .tc := ⟨.hbm, 109, rfl⟩
abbrev main_call0_call0_call0_v52 : Ref sig .tc := ⟨.hbm, 110, rfl⟩
abbrev main_call0_call0_call0_v53 : Ref sig .tc := ⟨.hbm, 111, rfl⟩
abbrev main_call0_call0_call0_v54 : Ref sig .tc := ⟨.hbm, 112, rfl⟩
abbrev main_call0_call0_call0_c_13 : Ref sig .tc := ⟨.hbm, 113, rfl⟩
abbrev main_call0_call0_call0_v55 : Ref sig .tc := ⟨.hbm, 114, rfl⟩
abbrev main_call0_call0_call0_v56 : Ref sig .tc := ⟨.hbm, 115, rfl⟩
abbrev main_call0_call0_call0_c_14 : Ref sig .tc := ⟨.hbm, 116, rfl⟩
abbrev main_call0_call0_call0_v57 : Ref sig .tc := ⟨.hbm, 117, rfl⟩
abbrev main_call0_call0_call0_v58 : Ref sig .tc := ⟨.hbm, 118, rfl⟩
abbrev main_call0_call0_call0_v59 : Ref sig .tc := ⟨.hbm, 119, rfl⟩
abbrev main_call0_call0_call0_v60 : Ref sig .tc := ⟨.hbm, 120, rfl⟩
abbrev main_call0_call0_call0_v61 : Ref sig .tc := ⟨.hbm, 121, rfl⟩
abbrev main_call0_call0_call0_c_15 : Ref sig .tc := ⟨.hbm, 122, rfl⟩
abbrev main_call0_call0_call0_v62 : Ref sig .tc := ⟨.hbm, 123, rfl⟩
abbrev main_call0_call0_call0_v63 : Ref sig .tc := ⟨.hbm, 124, rfl⟩
abbrev main_call0_call0_call0_c_16 : Ref sig .tc := ⟨.hbm, 125, rfl⟩
abbrev main_call0_call0_call0_v64 : Ref sig .tc := ⟨.hbm, 126, rfl⟩
abbrev main_call0_call0_call0_v65 : Ref sig .tc := ⟨.hbm, 127, rfl⟩
abbrev main_call0_call0_call0_v66 : Ref sig .tc := ⟨.hbm, 128, rfl⟩
abbrev main_call0_call0_call0_v67 : Ref sig .tc := ⟨.hbm, 129, rfl⟩
abbrev main_call0_call0_call0_v68 : Ref sig .tc := ⟨.hbm, 130, rfl⟩
abbrev main_call0_call0_call0_v69 : Ref sig .tc := ⟨.hbm, 131, rfl⟩
abbrev main_call0_call0_call0_v70 : Ref sig .tc := ⟨.hbm, 132, rfl⟩
abbrev main_call0_call0_call0_v71 : Ref sig .tc := ⟨.hbm, 133, rfl⟩
abbrev main_call0_call0_call0_c_17 : Ref sig .tc := ⟨.hbm, 134, rfl⟩
abbrev main_call0_call0_call0_v72 : Ref sig .tc := ⟨.hbm, 135, rfl⟩
abbrev main_call0_call0_call0_v73 : Ref sig .tc := ⟨.hbm, 136, rfl⟩
abbrev main_call0_call0_call0_v74 : Ref sig .tc := ⟨.hbm, 137, rfl⟩
abbrev main_call0_call0_call0_c_18 : Ref sig .tc := ⟨.hbm, 138, rfl⟩
abbrev main_call0_call0_call0_v75 : Ref sig .tc := ⟨.hbm, 139, rfl⟩
abbrev main_call0_call0_call0_v76 : Ref sig .tc := ⟨.hbm, 140, rfl⟩
abbrev main_call0_call0_call0_c_19 : Ref sig .tc := ⟨.hbm, 141, rfl⟩
abbrev main_call0_call0_call0_v77 : Ref sig .tc := ⟨.hbm, 142, rfl⟩
abbrev main_call0_call0_call0_v78 : Ref sig .tc := ⟨.hbm, 143, rfl⟩
abbrev main_call0_call0_call0_v79 : Ref sig .tc := ⟨.hbm, 144, rfl⟩
abbrev main_call0_call0_call0_v80 : Ref sig .tc := ⟨.hbm, 145, rfl⟩
abbrev main_call0_call0_call0_v81 : Ref sig .tc := ⟨.hbm, 146, rfl⟩
abbrev main_call0_call0_call0_c_20 : Ref sig .tc := ⟨.hbm, 147, rfl⟩
abbrev main_call0_call0_call0_v82 : Ref sig .tc := ⟨.hbm, 148, rfl⟩
abbrev main_call0_call0_call0_v83 : Ref sig .tc := ⟨.hbm, 149, rfl⟩
abbrev main_call0_call0_call0_c_21 : Ref sig .tc := ⟨.hbm, 150, rfl⟩
abbrev main_call0_call0_call0_v84 : Ref sig .tc := ⟨.hbm, 151, rfl⟩
abbrev main_call0_call0_call0_v85 : Ref sig .tc := ⟨.hbm, 152, rfl⟩
abbrev main_call0_call0_call0_v86 : Ref sig .tc := ⟨.hbm, 153, rfl⟩
abbrev main_call0_call0_call0_v87 : Ref sig .tc := ⟨.hbm, 154, rfl⟩
abbrev main_call0_call0_call0_v88 : Ref sig .tc := ⟨.hbm, 155, rfl⟩
abbrev main_call0_call0_call0_c_22 : Ref sig .tc := ⟨.hbm, 156, rfl⟩
abbrev main_call0_call0_call0_v89 : Ref sig .tc := ⟨.hbm, 157, rfl⟩
abbrev main_call0_call0_call0_v90 : Ref sig .tc := ⟨.hbm, 158, rfl⟩
abbrev main_call0_call0_call0_c_23 : Ref sig .tc := ⟨.hbm, 159, rfl⟩
abbrev main_call0_call0_call0_v91 : Ref sig .tc := ⟨.hbm, 160, rfl⟩
abbrev main_call0_call0_call0_v92 : Ref sig .tc := ⟨.hbm, 161, rfl⟩
abbrev main_call0_call0_call0_v93 : Ref sig .tc := ⟨.hbm, 162, rfl⟩
abbrev main_call0_call0_call0_v94 : Ref sig .tc := ⟨.hbm, 163, rfl⟩
abbrev main_call0_call0_call0_v95 : Ref sig .tc := ⟨.hbm, 164, rfl⟩
abbrev main_call0_call0_call0_c_24 : Ref sig .tc := ⟨.hbm, 165, rfl⟩
abbrev main_call0_call0_call0_v96 : Ref sig .tc := ⟨.hbm, 166, rfl⟩
abbrev main_call0_call0_call0_v97 : Ref sig .tc := ⟨.hbm, 167, rfl⟩
abbrev main_call0_call0_call0_c_25 : Ref sig .tc := ⟨.hbm, 168, rfl⟩
abbrev main_call0_call0_call0_v98 : Ref sig .tc := ⟨.hbm, 169, rfl⟩
abbrev main_call0_call0_call0_v99 : Ref sig .tc := ⟨.hbm, 170, rfl⟩
abbrev main_call0_call0_call0_v100 : Ref sig .tc := ⟨.hbm, 171, rfl⟩
abbrev main_call0_call0_call0_v101 : Ref sig .tc := ⟨.hbm, 172, rfl⟩
abbrev main_call0_call0_call0_v102 : Ref sig .tc := ⟨.hbm, 173, rfl⟩
abbrev main_call0_call0_call0_v103 : Ref sig .tc := ⟨.hbm, 174, rfl⟩
abbrev main_call0_call0_call0_v104 : Ref sig .tc := ⟨.hbm, 175, rfl⟩
abbrev main_call0_call0_call0_v105 : Ref sig .tc := ⟨.hbm, 176, rfl⟩
abbrev main_call0_call0_call0_c_26 : Ref sig .tc := ⟨.hbm, 177, rfl⟩
abbrev main_call0_call0_call0_v106 : Ref sig .tc := ⟨.hbm, 178, rfl⟩
abbrev main_call0_call0_call0_v107 : Ref sig .tc := ⟨.hbm, 179, rfl⟩
abbrev main_call0_call0_call0_v108 : Ref sig .tc := ⟨.hbm, 180, rfl⟩
abbrev main_call0_call0_call0_c_27 : Ref sig .tc := ⟨.hbm, 181, rfl⟩
abbrev main_call0_call0_call0_v109 : Ref sig .tc := ⟨.hbm, 182, rfl⟩
abbrev main_call0_call0_call0_v110 : Ref sig .tc := ⟨.hbm, 183, rfl⟩
abbrev main_call0_call0_call0_c_28 : Ref sig .tc := ⟨.hbm, 184, rfl⟩
abbrev main_call0_call0_call0_v111 : Ref sig .tc := ⟨.hbm, 185, rfl⟩
abbrev main_call0_call0_call0_v112 : Ref sig .tc := ⟨.hbm, 186, rfl⟩
abbrev main_call0_call0_call0_v113 : Ref sig .tc := ⟨.hbm, 187, rfl⟩
abbrev main_call0_call0_call0_v114 : Ref sig .tc := ⟨.hbm, 188, rfl⟩
abbrev main_call0_call0_call0_v115 : Ref sig .tc := ⟨.hbm, 189, rfl⟩
abbrev main_call0_call0_call0_c_29 : Ref sig .tc := ⟨.hbm, 190, rfl⟩
abbrev main_call0_call0_call0_v116 : Ref sig .tc := ⟨.hbm, 191, rfl⟩
abbrev main_call0_call0_call0_v117 : Ref sig .tc := ⟨.hbm, 192, rfl⟩
abbrev main_call0_call0_call0_c_30 : Ref sig .tc := ⟨.hbm, 193, rfl⟩
abbrev main_call0_call0_call0_v118 : Ref sig .tc := ⟨.hbm, 194, rfl⟩
abbrev main_call0_call0_call0_v119 : Ref sig .tc := ⟨.hbm, 195, rfl⟩
abbrev main_call0_call0_call0_v120 : Ref sig .tc := ⟨.hbm, 196, rfl⟩
abbrev main_call0_call0_call0_v121 : Ref sig .tc := ⟨.hbm, 197, rfl⟩
abbrev main_call0_call0_call0_v122 : Ref sig .tc := ⟨.hbm, 198, rfl⟩
abbrev main_call0_call0_call0_c_31 : Ref sig .tc := ⟨.hbm, 199, rfl⟩
abbrev main_call0_call0_call0_v123 : Ref sig .tc := ⟨.hbm, 200, rfl⟩
abbrev main_call0_call0_call0_v124 : Ref sig .tc := ⟨.hbm, 201, rfl⟩
abbrev main_call0_call0_call0_c_32 : Ref sig .tc := ⟨.hbm, 202, rfl⟩
abbrev main_call0_call0_call0_v125 : Ref sig .tc := ⟨.hbm, 203, rfl⟩
abbrev main_call0_call0_call0_v126 : Ref sig .tc := ⟨.hbm, 204, rfl⟩
abbrev main_call0_call0_call0_v127 : Ref sig .tc := ⟨.hbm, 205, rfl⟩
abbrev main_call0_call0_call0_v128 : Ref sig .tc := ⟨.hbm, 206, rfl⟩
abbrev main_call0_call0_call0_v129 : Ref sig .tc := ⟨.hbm, 207, rfl⟩
abbrev main_call0_call0_call0_c_33 : Ref sig .tc := ⟨.hbm, 208, rfl⟩
abbrev main_call0_call0_call0_v130 : Ref sig .tc := ⟨.hbm, 209, rfl⟩
abbrev main_call0_call0_call0_v131 : Ref sig .tc := ⟨.hbm, 210, rfl⟩
abbrev main_call0_call0_call0_c_34 : Ref sig .tc := ⟨.hbm, 211, rfl⟩
abbrev main_call0_call0_call0_v132 : Ref sig .tc := ⟨.hbm, 212, rfl⟩
abbrev main_call0_call0_call0_v133 : Ref sig .tc := ⟨.hbm, 213, rfl⟩
abbrev main_call0_call0_call0_v134 : Ref sig .tc := ⟨.hbm, 214, rfl⟩
abbrev main_call0_call0_call0_v135 : Ref sig .tc := ⟨.hbm, 215, rfl⟩
abbrev main_call0_call0_call0_v136 : Ref sig .tc := ⟨.hbm, 216, rfl⟩
abbrev main_call0_call0_call0_v137 : Ref sig .tc := ⟨.hbm, 217, rfl⟩
abbrev main_call0_call0_call0_v138 : Ref sig .tc := ⟨.hbm, 218, rfl⟩
abbrev main_call0_call0_call0_v139 : Ref sig .tc := ⟨.hbm, 219, rfl⟩
abbrev main_call0_call0_call0_c_35 : Ref sig .tc := ⟨.hbm, 220, rfl⟩
abbrev main_call0_call0_call0_v140 : Ref sig .tc := ⟨.hbm, 221, rfl⟩
abbrev main_call0_call0_call0_v141 : Ref sig .tc := ⟨.hbm, 222, rfl⟩
abbrev main_call0_call0_call0_v142 : Ref sig .tc := ⟨.hbm, 223, rfl⟩
abbrev main_call0_call0_call0_c_36 : Ref sig .tc := ⟨.hbm, 224, rfl⟩
abbrev main_call0_call0_call0_v143 : Ref sig .tc := ⟨.hbm, 225, rfl⟩
abbrev main_call0_call0_call0_v144 : Ref sig .tc := ⟨.hbm, 226, rfl⟩
abbrev main_call0_call0_call0_c_37 : Ref sig .tc := ⟨.hbm, 227, rfl⟩
abbrev main_call0_call0_call0_v145 : Ref sig .tc := ⟨.hbm, 228, rfl⟩
abbrev main_call0_call0_call0_v146 : Ref sig .tc := ⟨.hbm, 229, rfl⟩
abbrev main_call0_call0_call0_v147 : Ref sig .tc := ⟨.hbm, 230, rfl⟩
abbrev main_call0_call0_call0_v148 : Ref sig .tc := ⟨.hbm, 231, rfl⟩
abbrev main_call0_call0_call0_v149 : Ref sig .tc := ⟨.hbm, 232, rfl⟩
abbrev main_call0_call0_call0_c_38 : Ref sig .tc := ⟨.hbm, 233, rfl⟩
abbrev main_call0_call0_call0_v150 : Ref sig .tc := ⟨.hbm, 234, rfl⟩
abbrev main_call0_call0_call0_v151 : Ref sig .tc := ⟨.hbm, 235, rfl⟩
abbrev main_call0_call0_call0_c_39 : Ref sig .tc := ⟨.hbm, 236, rfl⟩
abbrev main_call0_call0_call0_v152 : Ref sig .tc := ⟨.hbm, 237, rfl⟩
abbrev main_call0_call0_call0_v153 : Ref sig .tc := ⟨.hbm, 238, rfl⟩
abbrev main_call0_call0_call0_v154 : Ref sig .tc := ⟨.hbm, 239, rfl⟩
abbrev main_call0_call0_call0_v155 : Ref sig .tc := ⟨.hbm, 240, rfl⟩
abbrev main_call0_call0_call0_v156 : Ref sig .tc := ⟨.hbm, 241, rfl⟩
abbrev main_call0_call0_call0_c_40 : Ref sig .tc := ⟨.hbm, 242, rfl⟩
abbrev main_call0_call0_call0_v157 : Ref sig .tc := ⟨.hbm, 243, rfl⟩
abbrev main_call0_call0_call0_v158 : Ref sig .tc := ⟨.hbm, 244, rfl⟩
abbrev main_call0_call0_call0_c_41 : Ref sig .tc := ⟨.hbm, 245, rfl⟩
abbrev main_call0_call0_call0_v159 : Ref sig .tc := ⟨.hbm, 246, rfl⟩
abbrev main_call0_call0_call0_v160 : Ref sig .tc := ⟨.hbm, 247, rfl⟩
abbrev main_call0_call0_call0_v161 : Ref sig .tc := ⟨.hbm, 248, rfl⟩
abbrev main_call0_call0_call0_v162 : Ref sig .tc := ⟨.hbm, 249, rfl⟩
abbrev main_call0_call0_call0_v163 : Ref sig .tc := ⟨.hbm, 250, rfl⟩
abbrev main_call0_call0_call0_c_42 : Ref sig .tc := ⟨.hbm, 251, rfl⟩
abbrev main_call0_call0_call0_v164 : Ref sig .tc := ⟨.hbm, 252, rfl⟩
abbrev main_call0_call0_call0_v165 : Ref sig .tc := ⟨.hbm, 253, rfl⟩
abbrev main_call0_call0_call0_c_43 : Ref sig .tc := ⟨.hbm, 254, rfl⟩
abbrev main_call0_call0_call0_v166 : Ref sig .tc := ⟨.hbm, 255, rfl⟩
abbrev main_call0_call0_call0_v167 : Ref sig .tc := ⟨.hbm, 256, rfl⟩
abbrev main_call0_call0_call0_v168 : Ref sig .tc := ⟨.hbm, 257, rfl⟩
abbrev main_call0_call0_call0_v169 : Ref sig .tc := ⟨.hbm, 258, rfl⟩
abbrev main_call0_call0_call0_v170 : Ref sig .tc := ⟨.hbm, 259, rfl⟩
abbrev main_call0_call0_v22_0 : Ref sig .tc := ⟨.hbm, 260, rfl⟩
abbrev main_call0_call0_call0_v172 : Ref sig .tc := ⟨.hbm, 261, rfl⟩
abbrev main_call0_call0_call0_v173 : Ref sig .tc := ⟨.hbm, 262, rfl⟩
abbrev main_call0_call0_call0_c_44 : Ref sig .tc := ⟨.hbm, 263, rfl⟩
abbrev main_call0_call0_call0_v174 : Ref sig .tc := ⟨.hbm, 264, rfl⟩
abbrev main_call0_call0_v22_1 : Ref sig .tc := ⟨.hbm, 265, rfl⟩
abbrev main_call0_call0_v23 : Ref sig .tc := ⟨.hbm, 266, rfl⟩
abbrev main_call0_call0_c_3 : Ref sig .tc := ⟨.hbm, 267, rfl⟩
abbrev main_call0_call0_v24 : Ref sig .tc := ⟨.hbm, 268, rfl⟩
abbrev main_call0_call0_v25 : Ref sig .tc := ⟨.hbm, 269, rfl⟩
abbrev main_call0_call0_c_4 : Ref sig .tc := ⟨.hbm, 270, rfl⟩
abbrev main_call0_call0_v26 : Ref sig .tc := ⟨.hbm, 271, rfl⟩
abbrev main_call0_call0_v27 : Ref sig .tc := ⟨.hbm, 272, rfl⟩
abbrev main_call0_call0_v28 : Ref sig .tc := ⟨.hbm, 273, rfl⟩
abbrev main_call0_call0_cst : Ref sig .tc := ⟨.hbm, 274, rfl⟩
abbrev main_call0_call0_v29 : Ref sig .tc := ⟨.hbm, 275, rfl⟩
abbrev main_call0_call0_v30 : Ref sig .tc := ⟨.hbm, 276, rfl⟩
abbrev main_call0_call0_v31 : Ref sig .tc := ⟨.hbm, 277, rfl⟩
abbrev main_call0_call0_v32 : Ref sig .tc := ⟨.hbm, 278, rfl⟩
abbrev main_call0_call0_v33 : Ref sig .tc := ⟨.hbm, 279, rfl⟩
abbrev main_call0_call0_v34 : Ref sig .tc := ⟨.hbm, 280, rfl⟩
abbrev main_call0_call0_v35 : Ref sig .tc := ⟨.hbm, 281, rfl⟩
abbrev main_call0_call0_v36 : Ref sig .tc := ⟨.hbm, 282, rfl⟩
abbrev main_call0_v0 : Ref sig .tc := ⟨.hbm, 283, rfl⟩
abbrev main_call0_v1 : Ref sig .tc := ⟨.hbm, 284, rfl⟩
abbrev main_call0_v2 : Ref sig .tc := ⟨.hbm, 285, rfl⟩
abbrev main_call0_v3 : Ref sig .tc := ⟨.hbm, 286, rfl⟩
abbrev main_v8 : Ref sig .tc := ⟨.hbm, 287, rfl⟩
abbrev main_v9 : Ref sig .tc := ⟨.hbm, 288, rfl⟩
abbrev main_v10 : Ref sig .tc := ⟨.hbm, 289, rfl⟩
abbrev main_v11 : Ref sig .tc := ⟨.hbm, 290, rfl⟩
abbrev main_call1_v0 : Ref sig .tc := ⟨.hbm, 291, rfl⟩
abbrev main_call1_cst : Ref sig .tc := ⟨.hbm, 292, rfl⟩
abbrev main_call1_c : Ref sig .tc := ⟨.hbm, 293, rfl⟩
abbrev main_call1_v1_0 : Ref sig .tc := ⟨.hbm, 294, rfl⟩
abbrev main_v12 : Ref sig .tc := ⟨.hbm, 295, rfl⟩
abbrev main_v13 : Ref sig .tc := ⟨.hbm, 296, rfl⟩
abbrev main_v14 : Ref sig .tc := ⟨.hbm, 297, rfl⟩
abbrev main_v15 : Ref sig .tc := ⟨.hbm, 298, rfl⟩
abbrev main_v16 : Ref sig .tc := ⟨.hbm, 299, rfl⟩
abbrev main_cst : Ref sig .tc := ⟨.hbm, 300, rfl⟩
abbrev main_v17 : Ref sig .tc := ⟨.hbm, 301, rfl⟩
abbrev main_v18 : Ref sig .tc := ⟨.hbm, 302, rfl⟩
abbrev main_v19 : Ref sig .tc := ⟨.hbm, 303, rfl⟩
abbrev main_v20 : Ref sig .tc := ⟨.hbm, 304, rfl⟩
abbrev main_v21 : Ref sig .tc := ⟨.hbm, 305, rfl⟩
abbrev main_v22 : Ref sig .tc := ⟨.hbm, 306, rfl⟩
abbrev main_cst_2 : Ref sig .tc := ⟨.hbm, 307, rfl⟩
abbrev main_v23 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x51 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x64 : Shape := ⟨2, ![16384, 64]⟩
abbrev S16384 : Shape := ⟨1, ![16384]⟩
abbrev S1000x64 : Shape := ⟨2, ![1000, 64]⟩
abbrev S1000 : Shape := ⟨1, ![1000]⟩
abbrev S_ : Shape := ⟨0, ![]⟩
abbrev S1 : Shape := ⟨1, ![1]⟩
abbrev S2 : Shape := ⟨1, ![2]⟩
abbrev S1x1x1 : Shape := ⟨3, ![1, 1, 1]⟩
abbrev S16384x50x1000 : Shape := ⟨3, ![16384, 50, 1000]⟩
abbrev S1x1x1000 : Shape := ⟨3, ![1, 1, 1000]⟩
abbrev S16384x50 : Shape := ⟨2, ![16384, 50]⟩
abbrev S16384x1 : Shape := ⟨2, ![16384, 1]⟩
abbrev S16384x51 : Shape := ⟨2, ![16384, 51]⟩
abbrev S16384x51x1 : Shape := ⟨3, ![16384, 51, 1]⟩
abbrev S16384x51x64 : Shape := ⟨3, ![16384, 51, 64]⟩
abbrev S16384x50x1 : Shape := ⟨3, ![16384, 50, 1]⟩
abbrev S1x1 : Shape := ⟨2, ![1, 1]⟩

abbrev nBuf : Space → Nat
  | .hbm => 420
  | .vmem => 0
  | .smem => 0
  | _ => 0

abbrev hbmTy0_0 (i : Nat) : BufTy := match i % 128 with
  | 0 => ⟨S16384x64, .f32⟩
  | 1 => ⟨S16384, .i32⟩
  | 2 => ⟨S1000x64, .f32⟩
  | 3 => ⟨S1000, .f32⟩
  | 4 => ⟨S1000, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S1000, .f32⟩
  | 16 => ⟨S_, .f32⟩
  | 17 => ⟨S_, .f32⟩
  | 18 => ⟨S_, .f32⟩
  | 19 => ⟨S1x1x1, .f32⟩
  | 20 => ⟨S1x1x1, .f32⟩
  | 21 => ⟨S1, .i32⟩
  | 22 => ⟨S_, .i32⟩
  | 23 => ⟨S1, .i32⟩
  | 24 => ⟨S_, .i32⟩
  | 25 => ⟨S16384x50x1000, .i64⟩
  | 26 => ⟨S16384x50x1000, .i64⟩
  | 27 => ⟨S16384x50x1000, .i64⟩
  | 28 => ⟨S_, .i64⟩
  | 29 => ⟨S16384x50x1000, .i64⟩
  | 30 => ⟨S16384x50x1000, .i64⟩
  | 31 => ⟨S_, .i64⟩
  | 32 => ⟨S16384x50x1000, .i64⟩
  | 33 => ⟨S16384x50x1000, .i64⟩
  | 34 => ⟨S_, .i64⟩
  | 35 => ⟨S16384x50x1000, .i64⟩
  | 36 => ⟨S16384x50x1000, .i64⟩
  | 37 => ⟨S16384x50x1000, .i64⟩
  | 38 => ⟨S16384x50x1000, .i64⟩
  | 39 => ⟨S_, .i64⟩
  | 40 => ⟨S16384x50x1000, .i64⟩
  | 41 => ⟨S16384x50x1000, .i64⟩
  | 42 => ⟨S16384x50x1000, .i32⟩
  | 43 => ⟨S16384x50x1000, .i32⟩
  | 44 => ⟨S_, .i32⟩
  | 45 => ⟨S_, .i32⟩
  | 46 => ⟨S_, .i32⟩
  | 47 => ⟨S16384x50x1000, .i32⟩
  | 48 => ⟨S16384x50x1000, .i32⟩
  | 49 => ⟨S16384x50x1000, .i32⟩
  | 50 => ⟨S16384x50x1000, .i32⟩
  | 51 => ⟨S16384x50x1000, .i32⟩
  | 52 => ⟨S_, .i32⟩
  | 53 => ⟨S16384x50x1000, .i32⟩
  | 54 => ⟨S16384x50x1000, .i32⟩
  | 55 => ⟨S_, .i32⟩
  | 56 => ⟨S16384x50x1000, .i32⟩
  | 57 => ⟨S16384x50x1000, .i32⟩
  | 58 => ⟨S16384x50x1000, .i32⟩
  | 59 => ⟨S16384x50x1000, .i32⟩
  | 60 => ⟨S16384x50x1000, .i32⟩
  | 61 => ⟨S_, .i32⟩
  | 62 => ⟨S16384x50x1000, .i32⟩
  | 63 => ⟨S16384x50x1000, .i32⟩
  | 64 => ⟨S_, .i32⟩
  | 65 => ⟨S16384x50x1000, .i32⟩
  | 66 => ⟨S16384x50x1000, .i32⟩
  | 67 => ⟨S16384x50x1000, .i32⟩
  | 68 => ⟨S16384x50x1000, .i32⟩
  | 69 => ⟨S16384x50x1000, .i32⟩
  | 70 => ⟨S_, .i32⟩
  | 71 => ⟨S16384x50x1000, .i32⟩
  | 72 => ⟨S16384x50x1000, .i32⟩
  | 73 => ⟨S_, .i32⟩
  | 74 => ⟨S16384x50x1000, .i32⟩
  | 75 => ⟨S16384x50x1000, .i32⟩
  | 76 => ⟨S16384x50x1000, .i32⟩
  | 77 => ⟨S16384x50x1000, .i32⟩
  | 78 => ⟨S16384x50x1000, .i32⟩
  | 79 => ⟨S_, .i32⟩
  | 80 => ⟨S16384x50x1000, .i32⟩
  | 81 => ⟨S16384x50x1000, .i32⟩
  | 82 => ⟨S_, .i32⟩
  | 83 => ⟨S16384x50x1000, .i32⟩
  | 84 => ⟨S16384x50x1000, .i32⟩
  | 85 => ⟨S16384x50x1000, .i32⟩
  | 86 => ⟨S16384x50x1000, .i32⟩
  | 87 => ⟨S16384x50x1000, .i32⟩
  | 88 => ⟨S16384x50x1000, .i32⟩
  | 89 => ⟨S16384x50x1000, .i32⟩
  | 90 => ⟨S16384x50x1000, .i32⟩
  | 91 => ⟨S_, .i32⟩
  | 92 => ⟨S16384x50x1000, .i32⟩
  | 93 => ⟨S16384x50x1000, .i32⟩
  | 94 => ⟨S16384x50x1000, .i32⟩
  | 95 => ⟨S_, .i32⟩
  | 96 => ⟨S16384x50x1000, .i32⟩
  | 97 => ⟨S16384x50x1000, .i32⟩
  | 98 => ⟨S_, .i32⟩
  | 99 => ⟨S16384x50x1000, .i32⟩
  | 100 => ⟨S16384x50x1000, .i32⟩
  | 101 => ⟨S16384x50x1000, .i32⟩
  | 102 => ⟨S16384x50x1000, .i32⟩
  | 103 => ⟨S16384x50x1000, .i32⟩
  | 104 => ⟨S_, .i32⟩
  | 105 => ⟨S16384x50x1000, .i32⟩
  | 106 => ⟨S16384x50x1000, .i32⟩
  | 107 => ⟨S_, .i32⟩
  | 108 => ⟨S16384x50x1000, .i32⟩
  | 109 => ⟨S16384x50x1000, .i32⟩
  | 110 => ⟨S16384x50x1000, .i32⟩
  | 111 => ⟨S16384x50x1000, .i32⟩
  | 112 => ⟨S16384x50x1000, .i32⟩
  | 113 => ⟨S_, .i32⟩
  | 114 => ⟨S16384x50x1000, .i32⟩
  | 115 => ⟨S16384x50x1000, .i32⟩
  | 116 => ⟨S_, .i32⟩
  | 117 => ⟨S16384x50x1000, .i32⟩
  | 118 => ⟨S16384x50x1000, .i32⟩
  | 119 => ⟨S16384x50x1000, .i32⟩
  | 120 => ⟨S16384x50x1000, .i32⟩
  | 121 => ⟨S16384x50x1000, .i32⟩
  | 122 => ⟨S_, .i32⟩
  | 123 => ⟨S16384x50x1000, .i32⟩
  | 124 => ⟨S16384x50x1000, .i32⟩
  | 125 => ⟨S_, .i32⟩
  | 126 => ⟨S16384x50x1000, .i32⟩
  | 127 => ⟨S16384x50x1000, .i32⟩
  | _ => ⟨S16384x64, .f32⟩

abbrev hbmTy0_1 (i : Nat) : BufTy := match i % 128 with
  | 0 => ⟨S16384x50x1000, .i32⟩
  | 1 => ⟨S16384x50x1000, .i32⟩
  | 2 => ⟨S16384x50x1000, .i32⟩
  | 3 => ⟨S16384x50x1000, .i32⟩
  | 4 => ⟨S16384x50x1000, .i32⟩
  | 5 => ⟨S16384x50x1000, .i32⟩
  | 6 => ⟨S_, .i32⟩
  | 7 => ⟨S16384x50x1000, .i32⟩
  | 8 => ⟨S16384x50x1000, .i32⟩
  | 9 => ⟨S16384x50x1000, .i32⟩
  | 10 => ⟨S_, .i32⟩
  | 11 => ⟨S16384x50x1000, .i32⟩
  | 12 => ⟨S16384x50x1000, .i32⟩
  | 13 => ⟨S_, .i32⟩
  | 14 => ⟨S16384x50x1000, .i32⟩
  | 15 => ⟨S16384x50x1000, .i32⟩
  | 16 => ⟨S16384x50x1000, .i32⟩
  | 17 => ⟨S16384x50x1000, .i32⟩
  | 18 => ⟨S16384x50x1000, .i32⟩
  | 19 => ⟨S_, .i32⟩
  | 20 => ⟨S16384x50x1000, .i32⟩
  | 21 => ⟨S16384x50x1000, .i32⟩
  | 22 => ⟨S_, .i32⟩
  | 23 => ⟨S16384x50x1000, .i32⟩
  | 24 => ⟨S16384x50x1000, .i32⟩
  | 25 => ⟨S16384x50x1000, .i32⟩
  | 26 => ⟨S16384x50x1000, .i32⟩
  | 27 => ⟨S16384x50x1000, .i32⟩
  | 28 => ⟨S_, .i32⟩
  | 29 => ⟨S16384x50x1000, .i32⟩
  | 30 => ⟨S16384x50x1000, .i32⟩
  | 31 => ⟨S_, .i32⟩
  | 32 => ⟨S16384x50x1000, .i32⟩
  | 33 => ⟨S16384x50x1000, .i32⟩
  | 34 => ⟨S16384x50x1000, .i32⟩
  | 35 => ⟨S16384x50x1000, .i32⟩
  | 36 => ⟨S16384x50x1000, .i32⟩
  | 37 => ⟨S_, .i32⟩
  | 38 => ⟨S16384x50x1000, .i32⟩
  | 39 => ⟨S16384x50x1000, .i32⟩
  | 40 => ⟨S_, .i32⟩
  | 41 => ⟨S16384x50x1000, .i32⟩
  | 42 => ⟨S16384x50x1000, .i32⟩
  | 43 => ⟨S16384x50x1000, .i32⟩
  | 44 => ⟨S16384x50x1000, .i32⟩
  | 45 => ⟨S16384x50x1000, .i32⟩
  | 46 => ⟨S16384x50x1000, .i32⟩
  | 47 => ⟨S16384x50x1000, .i32⟩
  | 48 => ⟨S16384x50x1000, .i32⟩
  | 49 => ⟨S_, .i32⟩
  | 50 => ⟨S16384x50x1000, .i32⟩
  | 51 => ⟨S16384x50x1000, .i32⟩
  | 52 => ⟨S16384x50x1000, .i32⟩
  | 53 => ⟨S_, .i32⟩
  | 54 => ⟨S16384x50x1000, .i32⟩
  | 55 => ⟨S16384x50x1000, .i32⟩
  | 56 => ⟨S_, .i32⟩
  | 57 => ⟨S16384x50x1000, .i32⟩
  | 58 => ⟨S16384x50x1000, .i32⟩
  | 59 => ⟨S16384x50x1000, .i32⟩
  | 60 => ⟨S16384x50x1000, .i32⟩
  | 61 => ⟨S16384x50x1000, .i32⟩
  | 62 => ⟨S_, .i32⟩
  | 63 => ⟨S16384x50x1000, .i32⟩
  | 64 => ⟨S16384x50x1000, .i32⟩
  | 65 => ⟨S_, .i32⟩
  | 66 => ⟨S16384x50x1000, .i32⟩
  | 67 => ⟨S16384x50x1000, .i32⟩
  | 68 => ⟨S16384x50x1000, .i32⟩
  | 69 => ⟨S16384x50x1000, .i32⟩
  | 70 => ⟨S16384x50x1000, .i32⟩
  | 71 => ⟨S_, .i32⟩
  | 72 => ⟨S16384x50x1000, .i32⟩
  | 73 => ⟨S16384x50x1000, .i32⟩
  | 74 => ⟨S_, .i32⟩
  | 75 => ⟨S16384x50x1000, .i32⟩
  | 76 => ⟨S16384x50x1000, .i32⟩
  | 77 => ⟨S16384x50x1000, .i32⟩
  | 78 => ⟨S16384x50x1000, .i32⟩
  | 79 => ⟨S16384x50x1000, .i32⟩
  | 80 => ⟨S_, .i32⟩
  | 81 => ⟨S16384x50x1000, .i32⟩
  | 82 => ⟨S16384x50x1000, .i32⟩
  | 83 => ⟨S_, .i32⟩
  | 84 => ⟨S16384x50x1000, .i32⟩
  | 85 => ⟨S16384x50x1000, .i32⟩
  | 86 => ⟨S16384x50x1000, .i32⟩
  | 87 => ⟨S16384x50x1000, .i32⟩
  | 88 => ⟨S16384x50x1000, .i32⟩
  | 89 => ⟨S16384x50x1000, .i32⟩
  | 90 => ⟨S16384x50x1000, .i32⟩
  | 91 => ⟨S16384x50x1000, .i32⟩
  | 92 => ⟨S_, .i32⟩
  | 93 => ⟨S16384x50x1000, .i32⟩
  | 94 => ⟨S16384x50x1000, .i32⟩
  | 95 => ⟨S16384x50x1000, .i32⟩
  | 96 => ⟨S_, .i32⟩
  | 97 => ⟨S16384x50x1000, .i32⟩
  | 98 => ⟨S16384x50x1000, .i32⟩
  | 99 => ⟨S_, .i32⟩
  | 100 => ⟨S16384x50x1000, .i32⟩
  | 101 => ⟨S16384x50x1000, .i32⟩
  | 102 => ⟨S16384x50x1000, .i32⟩
  | 103 => ⟨S16384x50x1000, .i32⟩
  | 104 => ⟨S16384x50x1000, .i32⟩
  | 105 => ⟨S_, .i32⟩
  | 106 => ⟨S16384x50x1000, .i32⟩
  | 107 => ⟨S16384x50x1000, .i32⟩
  | 108 => ⟨S_, .i32⟩
  | 109 => ⟨S16384x50x1000, .i32⟩
  | 110 => ⟨S16384x50x1000, .i32⟩
  | 111 => ⟨S16384x50x1000, .i32⟩
  | 112 => ⟨S16384x50x1000, .i32⟩
  | 113 => ⟨S16384x50x1000, .i32⟩
  | 114 => ⟨S_, .i32⟩
  | 115 => ⟨S16384x50x1000, .i32⟩
  | 116 => ⟨S16384x50x1000, .i32⟩
  | 117 => ⟨S_, .i32⟩
  | 118 => ⟨S16384x50x1000, .i32⟩
  | 119 => ⟨S16384x50x1000, .i32⟩
  | 120 => ⟨S16384x50x1000, .i32⟩
  | 121 => ⟨S16384x50x1000, .i32⟩
  | 122 => ⟨S16384x50x1000, .i32⟩
  | 123 => ⟨S_, .i32⟩
  | 124 => ⟨S16384x50x1000, .i32⟩
  | 125 => ⟨S16384x50x1000, .i32⟩
  | 126 => ⟨S_, .i32⟩
  | 127 => ⟨S16384x50x1000, .i32⟩
  | _ => ⟨S16384x64, .f32⟩

abbrev hbmTy0_2 (i : Nat) : BufTy := match i % 128 with
  | 0 => ⟨S16384x50x1000, .i32⟩
  | 1 => ⟨S16384x50x1000, .i32⟩
  | 2 => ⟨S16384x50x1000, .i32⟩
  | 3 => ⟨S16384x50x1000, .i32⟩
  | 4 => ⟨S16384x50x1000, .i32⟩
  | 5 => ⟨S16384x50x1000, .i32⟩
  | 6 => ⟨S16384x50x1000, .i32⟩
  | 7 => ⟨S_, .i32⟩
  | 8 => ⟨S16384x50x1000, .i32⟩
  | 9 => ⟨S16384x50x1000, .i32⟩
  | 10 => ⟨S16384x50x1000, .i32⟩
  | 11 => ⟨S_, .i32⟩
  | 12 => ⟨S16384x50x1000, .i32⟩
  | 13 => ⟨S16384x50x1000, .i32⟩
  | 14 => ⟨S_, .i32⟩
  | 15 => ⟨S16384x50x1000, .i32⟩
  | 16 => ⟨S16384x50x1000, .i32⟩
  | 17 => ⟨S16384x50x1000, .f32⟩
  | 18 => ⟨S_, .f32⟩
  | 19 => ⟨S16384x50x1000, .f32⟩
  | 20 => ⟨S16384x50x1000, .f32⟩
  | 21 => ⟨S1x1x1, .f32⟩
  | 22 => ⟨S16384x50x1000, .f32⟩
  | 23 => ⟨S16384x50x1000, .f32⟩
  | 24 => ⟨S16384x50x1000, .f32⟩
  | 25 => ⟨S16384x50x1000, .f32⟩
  | 26 => ⟨S16384x50x1000, .f32⟩
  | 27 => ⟨S16384x50x1000, .f32⟩
  | 28 => ⟨S16384x50x1000, .f32⟩
  | 29 => ⟨S16384x50x1000, .f32⟩
  | 30 => ⟨S16384x50x1000, .f32⟩
  | 31 => ⟨S16384x50x1000, .f32⟩
  | 32 => ⟨S1x1x1000, .f32⟩
  | 33 => ⟨S16384x50x1000, .f32⟩
  | 34 => ⟨S16384x50x1000, .f32⟩
  | 35 => ⟨S16384x50x1000, .i32⟩
  | 36 => ⟨S_, .f32⟩
  | 37 => ⟨S_, .i32⟩
  | 38 => ⟨S16384x50, .f32⟩
  | 39 => ⟨S16384x50, .i32⟩
  | 40 => ⟨S16384x1, .i32⟩
  | 41 => ⟨S16384x51, .i32⟩
  | 42 => ⟨S_, .i32⟩
  | 43 => ⟨S16384x51, .i32⟩
  | 44 => ⟨S16384x51, .i1⟩
  | 45 => ⟨S_, .i32⟩
  | 46 => ⟨S16384x51, .i32⟩
  | 47 => ⟨S16384x51, .i32⟩
  | 48 => ⟨S16384x51, .i32⟩
  | 49 => ⟨S16384x51x1, .i32⟩
  | 50 => ⟨S1, .i32⟩
  | 51 => ⟨S_, .i32⟩
  | 52 => ⟨S16384x51x1, .i32⟩
  | 53 => ⟨S16384x51x1, .i1⟩
  | 54 => ⟨S1x1x1, .i32⟩
  | 55 => ⟨S16384x51x1, .i32⟩
  | 56 => ⟨S16384x51x1, .i1⟩
  | 57 => ⟨S16384x51x1, .i1⟩
  | 58 => ⟨S_, .i1⟩
  | 59 => ⟨S16384x51, .i1⟩
  | 60 => ⟨S16384x51x64, .f32⟩
  | 61 => ⟨S16384x51x64, .i1⟩
  | 62 => ⟨S_, .f32⟩
  | 63 => ⟨S16384x51x64, .f32⟩
  | 64 => ⟨S16384x51x64, .f32⟩
  | 65 => ⟨S_, .i32⟩
  | 66 => ⟨S16384x51, .i32⟩
  | 67 => ⟨S16384x51, .i1⟩
  | 68 => ⟨S_, .i32⟩
  | 69 => ⟨S16384x51, .i32⟩
  | 70 => ⟨S16384x51, .i32⟩
  | 71 => ⟨S16384x51, .i32⟩
  | 72 => ⟨S16384x51x1, .i32⟩
  | 73 => ⟨S1, .i32⟩
  | 74 => ⟨S_, .i32⟩
  | 75 => ⟨S16384x51x1, .i32⟩
  | 76 => ⟨S16384x51x1, .i1⟩
  | 77 => ⟨S1x1x1, .i32⟩
  | 78 => ⟨S16384x51x1, .i32⟩
  | 79 => ⟨S16384x51x1, .i1⟩
  | 80 => ⟨S16384x51x1, .i1⟩
  | 81 => ⟨S_, .i1⟩
  | 82 => ⟨S16384x51, .i1⟩
  | 83 => ⟨S16384x51, .f32⟩
  | 84 => ⟨S_, .f32⟩
  | 85 => ⟨S16384x51, .f32⟩
  | 86 => ⟨S16384x51, .f32⟩
  | 87 => ⟨S16384x51, .f32⟩
  | 88 => ⟨S16384x51, .f32⟩
  | 89 => ⟨S_, .f32⟩
  | 90 => ⟨S16384x51, .f32⟩
  | 91 => ⟨S16384x51, .f32⟩
  | 92 => ⟨S16384x51, .f32⟩
  | 93 => ⟨S16384x1, .f32⟩
  | 94 => ⟨S16384, .f32⟩
  | 95 => ⟨S16384x50, .f32⟩
  | 96 => ⟨S_, .i32⟩
  | 97 => ⟨S16384x50, .i32⟩
  | 98 => ⟨S16384x50, .i1⟩
  | 99 => ⟨S_, .i32⟩
  | 100 => ⟨S16384x50, .i32⟩
  | 101 => ⟨S16384x50, .i32⟩
  | 102 => ⟨S16384x50, .i32⟩
  | 103 => ⟨S16384x50x1, .i32⟩
  | 104 => ⟨S1, .i32⟩
  | 105 => ⟨S_, .i32⟩
  | 106 => ⟨S16384x50x1, .i32⟩
  | 107 => ⟨S16384x50x1, .i1⟩
  | 108 => ⟨S1x1x1, .i32⟩
  | 109 => ⟨S16384x50x1, .i32⟩
  | 110 => ⟨S16384x50x1, .i1⟩
  | 111 => ⟨S16384x50x1, .i1⟩
  | 112 => ⟨S_, .i1⟩
  | 113 => ⟨S16384x50, .i1⟩
  | 114 => ⟨S16384x50, .f32⟩
  | 115 => ⟨S_, .f32⟩
  | 116 => ⟨S16384x50, .f32⟩
  | 117 => ⟨S16384x50, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S1, .i32⟩
  | 127 => ⟨S_, .i32⟩
  | _ => ⟨S16384x64, .f32⟩

abbrev hbmTy0_3 (i : Nat) : BufTy := match i % 128 with
  | 0 => ⟨S16384x1, .i32⟩
  | 1 => ⟨S16384x1, .i1⟩
  | 2 => ⟨S1x1, .i32⟩
  | 3 => ⟨S16384x1, .i32⟩
  | 4 => ⟨S16384x1, .i1⟩
  | 5 => ⟨S16384x1, .i1⟩
  | 6 => ⟨S_, .i1⟩
  | 7 => ⟨S16384, .i1⟩
  | 8 => ⟨S16384, .f32⟩
  | 9 => ⟨S_, .f32⟩
  | 10 => ⟨S16384, .f32⟩
  | 11 => ⟨S16384, .f32⟩
  | 12 => ⟨S_, .f32⟩
  | 13 => ⟨S16384, .f32⟩
  | 14 => ⟨S16384, .f32⟩
  | 15 => ⟨S16384, .f32⟩
  | 16 => ⟨S16384, .f32⟩
  | 17 => ⟨S16384, .f32⟩
  | 18 => ⟨S_, .f32⟩
  | 19 => ⟨S16384x50, .f32⟩
  | 20 => ⟨S16384x50, .f32⟩
  | 21 => ⟨S_, .f32⟩
  | 22 => ⟨S16384x50, .f32⟩
  | 23 => ⟨S16384x50, .f32⟩
  | 24 => ⟨S16384x50, .f32⟩
  | 25 => ⟨S16384x50, .f32⟩
  | 26 => ⟨S16384x50, .f32⟩
  | 27 => ⟨S_, .f32⟩
  | 28 => ⟨S16384, .f32⟩
  | 29 => ⟨S16384, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S16384x64, .f32⟩

abbrev hbmTy (i : Nat) : BufTy := match i / 128 with
  | 0 => hbmTy0_0 i
  | 1 => hbmTy0_1 i
  | 2 => hbmTy0_2 i
  | 3 => hbmTy0_3 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_cst_0 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_c : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_c_0 : Ref sig .tc := ⟨.hbm, 31, rfl⟩
abbrev main_call0_call0_v12 : Ref sig .tc := ⟨.hbm, 32, rfl⟩
abbrev main_call0_call0_v13 : Ref sig .tc := ⟨.hbm, 33, rfl⟩
abbrev main_call0_call0_c_1 : Ref sig .tc := ⟨.hbm, 34, rfl⟩
abbrev main_call0_call0_v14 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_v17 : Ref sig .tc := ⟨.hbm, 38, rfl⟩
abbrev main_call0_call0_c_2 : Ref sig .tc := ⟨.hbm, 39, rfl⟩
abbrev main_call0_call0_v18 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_call0_call0_call0_v0 : Ref sig .tc := ⟨.hbm, 44, rfl⟩
abbrev main_call0_call0_call0_c : Ref sig .tc := ⟨.hbm, 45, rfl⟩
abbrev main_call0_call0_call0_v1 : Ref sig .tc := ⟨.hbm, 46, rfl⟩
abbrev main_call0_call0_call0_v2 : Ref sig .tc := ⟨.hbm, 47, rfl⟩
abbrev main_call0_call0_call0_v3 : Ref sig .tc := ⟨.hbm, 48, rfl⟩
abbrev main_call0_call0_call0_v4 : Ref sig .tc := ⟨.hbm, 49, rfl⟩
abbrev main_call0_call0_call0_v5 : Ref sig .tc := ⟨.hbm, 50, rfl⟩
abbrev main_call0_call0_call0_v6 : Ref sig .tc := ⟨.hbm, 51, rfl⟩
abbrev main_call0_call0_call0_c_0 : Ref sig .tc := ⟨.hbm, 52, rfl⟩
abbrev main_call0_call0_call0_v7 : Ref sig .tc := ⟨.hbm, 53, rfl⟩
abbrev main_call0_call0_call0_v8 : Ref sig .tc := ⟨.hbm, 54, rfl⟩
abbrev main_call0_call0_call0_c_1 : Ref sig .tc := ⟨.hbm, 55, rfl⟩
abbrev main_call0_call0_call0_v9 : Ref sig .tc := ⟨.hbm, 56, rfl⟩
abbrev main_call0_call0_call0_v10 : Ref sig .tc := ⟨.hbm, 57, rfl⟩
abbrev main_call0_call0_call0_v11 : Ref sig .tc := ⟨.hbm, 58, rfl⟩
abbrev main_call0_call0_call0_v12 : Ref sig .tc := ⟨.hbm, 59, rfl⟩
abbrev main_call0_call0_call0_v13 : Ref sig .tc := ⟨.hbm, 60, rfl⟩
abbrev main_call0_call0_call0_c_2 : Ref sig .tc := ⟨.hbm, 61, rfl⟩
abbrev main_call0_call0_call0_v14 : Ref sig .tc := ⟨.hbm, 62, rfl⟩
abbrev main_call0_call0_call0_v15 : Ref sig .tc := ⟨.hbm, 63, rfl⟩
abbrev main_call0_call0_call0_c_3 : Ref sig .tc := ⟨.hbm, 64, rfl⟩
abbrev main_call0_call0_call0_v16 : Ref sig .tc := ⟨.hbm, 65, rfl⟩
abbrev main_call0_call0_call0_v17 : Ref sig .tc := ⟨.hbm, 66, rfl⟩
abbrev main_call0_call0_call0_v18 : Ref sig .tc := ⟨.hbm, 67, rfl⟩
abbrev main_call0_call0_call0_v19 : Ref sig .tc := ⟨.hbm, 68, rfl⟩
abbrev main_call0_call0_call0_v20 : Ref sig .tc := ⟨.hbm, 69, rfl⟩
abbrev main_call0_call0_call0_c_4 : Ref sig .tc := ⟨.hbm, 70, rfl⟩
abbrev main_call0_call0_call0_v21 : Ref sig .tc := ⟨.hbm, 71, rfl⟩
abbrev main_call0_call0_call0_v22 : Ref sig .tc := ⟨.hbm, 72, rfl⟩
abbrev main_call0_call0_call0_c_5 : Ref sig .tc := ⟨.hbm, 73, rfl⟩
abbrev main_call0_call0_call0_v23 : Ref sig .tc := ⟨.hbm, 74, rfl⟩
abbrev main_call0_call0_call0_v24 : Ref sig .tc := ⟨.hbm, 75, rfl⟩
abbrev main_call0_call0_call0_v25 : Ref sig .tc := ⟨.hbm, 76, rfl⟩
abbrev main_call0_call0_call0_v26 : Ref sig .tc := ⟨.hbm, 77, rfl⟩
abbrev main_call0_call0_call0_v27 : Ref sig .tc := ⟨.hbm, 78, rfl⟩
abbrev main_call0_call0_call0_c_6 : Ref sig .tc := ⟨.hbm, 79, rfl⟩
abbrev main_call0_call0_call0_v28 : Ref sig .tc := ⟨.hbm, 80, rfl⟩
abbrev main_call0_call0_call0_v29 : Ref sig .tc := ⟨.hbm, 81, rfl⟩
abbrev main_call0_call0_call0_c_7 : Ref sig .tc := ⟨.hbm, 82, rfl⟩
abbrev main_call0_call0_call0_v30 : Ref sig .tc := ⟨.hbm, 83, rfl⟩
abbrev main_call0_call0_call0_v31 : Ref sig .tc := ⟨.hbm, 84, rfl⟩
abbrev main_call0_call0_call0_v32 : Ref sig .tc := ⟨.hbm, 85, rfl⟩
abbrev main_call0_call0_call0_v33 : Ref sig .tc := ⟨.hbm, 86, rfl⟩
abbrev main_call0_call0_call0_v34 : Ref sig .tc := ⟨.hbm, 87, rfl⟩
abbrev main_call0_call0_call0_v35 : Ref sig .tc := ⟨.hbm, 88, rfl⟩
abbrev main_call0_call0_call0_v36 : Ref sig .tc := ⟨.hbm, 89, rfl⟩
abbrev main_call0_call0_call0_v37 : Ref sig .tc := ⟨.hbm, 90, rfl⟩
abbrev main_call0_call0_call0_c_8 : Ref sig .tc := ⟨.hbm, 91, rfl⟩
abbrev main_call0_call0_call0_v38 : Ref sig .tc := ⟨.hbm, 92, rfl⟩
abbrev main_call0_call0_call0_v39 : Ref sig .tc := ⟨.hbm, 93, rfl⟩
abbrev main_call0_call0_call0_v40 : Ref sig .tc := ⟨.hbm, 94, rfl⟩
abbrev main_call0_call0_call0_c_9 : Ref sig .tc := ⟨.hbm, 95, rfl⟩
abbrev main_call0_call0_call0_v41 : Ref sig .tc := ⟨.hbm, 96, rfl⟩
abbrev main_call0_call0_call0_v42 : Ref sig .tc := ⟨.hbm, 97, rfl⟩
abbrev main_call0_call0_call0_c_10 : Ref sig .tc := ⟨.hbm, 98, rfl⟩
abbrev main_call0_call0_call0_v43 : Ref sig .tc := ⟨.hbm, 99, rfl⟩
abbrev main_call0_call0_call0_v44 : Ref sig .tc := ⟨.hbm, 100, rfl⟩
abbrev main_call0_call0_call0_v45 : Ref sig .tc := ⟨.hbm, 101, rfl⟩
abbrev main_call0_call0_call0_v46 : Ref sig .tc := ⟨.hbm, 102, rfl⟩
abbrev main_call0_call0_call0_v47 : Ref sig .tc := ⟨.hbm, 103, rfl⟩
abbrev main_call0_call0_call0_c_11 : Ref sig .tc := ⟨.hbm, 104, rfl⟩
abbrev main_call0_call0_call0_v48 : Ref sig .tc := ⟨.hbm, 105, rfl⟩
abbrev main_call0_call0_call0_v49 : Ref sig .tc := ⟨.hbm, 106, rfl⟩
abbrev main_call0_call0_call0_c_12 : Ref sig .tc := ⟨.hbm, 107, rfl⟩
abbrev main_call0_call0_call0_v50 : Ref sig .tc := ⟨.hbm, 108, rfl⟩
abbrev main_call0_call0_call0_v51 : Ref sig .tc := ⟨.hbm, 109, rfl⟩
abbrev main_call0_call0_call0_v52 : Ref sig .tc := ⟨.hbm, 110, rfl⟩
abbrev main_call0_call0_call0_v53 : Ref sig .tc := ⟨.hbm, 111, rfl⟩
abbrev main_call0_call0_call0_v54 : Ref sig .tc := ⟨.hbm, 112, rfl⟩
abbrev main_call0_call0_call0_c_13 : Ref sig .tc := ⟨.hbm, 113, rfl⟩
abbrev main_call0_call0_call0_v55 : Ref sig .tc := ⟨.hbm, 114, rfl⟩
abbrev main_call0_call0_call0_v56 : Ref sig .tc := ⟨.hbm, 115, rfl⟩
abbrev main_call0_call0_call0_c_14 : Ref sig .tc := ⟨.hbm, 116, rfl⟩
abbrev main_call0_call0_call0_v57 : Ref sig .tc := ⟨.hbm, 117, rfl⟩
abbrev main_call0_call0_call0_v58 : Ref sig .tc := ⟨.hbm, 118, rfl⟩
abbrev main_call0_call0_call0_v59 : Ref sig .tc := ⟨.hbm, 119, rfl⟩
abbrev main_call0_call0_call0_v60 : Ref sig .tc := ⟨.hbm, 120, rfl⟩
abbrev main_call0_call0_call0_v61 : Ref sig .tc := ⟨.hbm, 121, rfl⟩
abbrev main_call0_call0_call0_c_15 : Ref sig .tc := ⟨.hbm, 122, rfl⟩
abbrev main_call0_call0_call0_v62 : Ref sig .tc := ⟨.hbm, 123, rfl⟩
abbrev main_call0_call0_call0_v63 : Ref sig .tc := ⟨.hbm, 124, rfl⟩
abbrev main_call0_call0_call0_c_16 : Ref sig .tc := ⟨.hbm, 125, rfl⟩
abbrev main_call0_call0_call0_v64 : Ref sig .tc := ⟨.hbm, 126, rfl⟩
abbrev main_call0_call0_call0_v65 : Ref sig .tc := ⟨.hbm, 127, rfl⟩
abbrev main_call0_call0_call0_v66 : Ref sig .tc := ⟨.hbm, 128, rfl⟩
abbrev main_call0_call0_call0_v67 : Ref sig .tc := ⟨.hbm, 129, rfl⟩
abbrev main_call0_call0_call0_v68 : Ref sig .tc := ⟨.hbm, 130, rfl⟩
abbrev main_call0_call0_call0_v69 : Ref sig .tc := ⟨.hbm, 131, rfl⟩
abbrev main_call0_call0_call0_v70 : Ref sig .tc := ⟨.hbm, 132, rfl⟩
abbrev main_call0_call0_call0_v71 : Ref sig .tc := ⟨.hbm, 133, rfl⟩
abbrev main_call0_call0_call0_c_17 : Ref sig .tc := ⟨.hbm, 134, rfl⟩
abbrev main_call0_call0_call0_v72 : Ref sig .tc := ⟨.hbm, 135, rfl⟩
abbrev main_call0_call0_call0_v73 : Ref sig .tc := ⟨.hbm, 136, rfl⟩
abbrev main_call0_call0_call0_v74 : Ref sig .tc := ⟨.hbm, 137, rfl⟩
abbrev main_call0_call0_call0_c_18 : Ref sig .tc := ⟨.hbm, 138, rfl⟩
abbrev main_call0_call0_call0_v75 : Ref sig .tc := ⟨.hbm, 139, rfl⟩
abbrev main_call0_call0_call0_v76 : Ref sig .tc := ⟨.hbm, 140, rfl⟩
abbrev main_call0_call0_call0_c_19 : Ref sig .tc := ⟨.hbm, 141, rfl⟩
abbrev main_call0_call0_call0_v77 : Ref sig .tc := ⟨.hbm, 142, rfl⟩
abbrev main_call0_call0_call0_v78 : Ref sig .tc := ⟨.hbm, 143, rfl⟩
abbrev main_call0_call0_call0_v79 : Ref sig .tc := ⟨.hbm, 144, rfl⟩
abbrev main_call0_call0_call0_v80 : Ref sig .tc := ⟨.hbm, 145, rfl⟩
abbrev main_call0_call0_call0_v81 : Ref sig .tc := ⟨.hbm, 146, rfl⟩
abbrev main_call0_call0_call0_c_20 : Ref sig .tc := ⟨.hbm, 147, rfl⟩
abbrev main_call0_call0_call0_v82 : Ref sig .tc := ⟨.hbm, 148, rfl⟩
abbrev main_call0_call0_call0_v83 : Ref sig .tc := ⟨.hbm, 149, rfl⟩
abbrev main_call0_call0_call0_c_21 : Ref sig .tc := ⟨.hbm, 150, rfl⟩
abbrev main_call0_call0_call0_v84 : Ref sig .tc := ⟨.hbm, 151, rfl⟩
abbrev main_call0_call0_call0_v85 : Ref sig .tc := ⟨.hbm, 152, rfl⟩
abbrev main_call0_call0_call0_v86 : Ref sig .tc := ⟨.hbm, 153, rfl⟩
abbrev main_call0_call0_call0_v87 : Ref sig .tc := ⟨.hbm, 154, rfl⟩
abbrev main_call0_call0_call0_v88 : Ref sig .tc := ⟨.hbm, 155, rfl⟩
abbrev main_call0_call0_call0_c_22 : Ref sig .tc := ⟨.hbm, 156, rfl⟩
abbrev main_call0_call0_call0_v89 : Ref sig .tc := ⟨.hbm, 157, rfl⟩
abbrev main_call0_call0_call0_v90 : Ref sig .tc := ⟨.hbm, 158, rfl⟩
abbrev main_call0_call0_call0_c_23 : Ref sig .tc := ⟨.hbm, 159, rfl⟩
abbrev main_call0_call0_call0_v91 : Ref sig .tc := ⟨.hbm, 160, rfl⟩
abbrev main_call0_call0_call0_v92 : Ref sig .tc := ⟨.hbm, 161, rfl⟩
abbrev main_call0_call0_call0_v93 : Ref sig .tc := ⟨.hbm, 162, rfl⟩
abbrev main_call0_call0_call0_v94 : Ref sig .tc := ⟨.hbm, 163, rfl⟩
abbrev main_call0_call0_call0_v95 : Ref sig .tc := ⟨.hbm, 164, rfl⟩
abbrev main_call0_call0_call0_c_24 : Ref sig .tc := ⟨.hbm, 165, rfl⟩
abbrev main_call0_call0_call0_v96 : Ref sig .tc := ⟨.hbm, 166, rfl⟩
abbrev main_call0_call0_call0_v97 : Ref sig .tc := ⟨.hbm, 167, rfl⟩
abbrev main_call0_call0_call0_c_25 : Ref sig .tc := ⟨.hbm, 168, rfl⟩
abbrev main_call0_call0_call0_v98 : Ref sig .tc := ⟨.hbm, 169, rfl⟩
abbrev main_call0_call0_call0_v99 : Ref sig .tc := ⟨.hbm, 170, rfl⟩
abbrev main_call0_call0_call0_v100 : Ref sig .tc := ⟨.hbm, 171, rfl⟩
abbrev main_call0_call0_call0_v101 : Ref sig .tc := ⟨.hbm, 172, rfl⟩
abbrev main_call0_call0_call0_v102 : Ref sig .tc := ⟨.hbm, 173, rfl⟩
abbrev main_call0_call0_call0_v103 : Ref sig .tc := ⟨.hbm, 174, rfl⟩
abbrev main_call0_call0_call0_v104 : Ref sig .tc := ⟨.hbm, 175, rfl⟩
abbrev main_call0_call0_call0_v105 : Ref sig .tc := ⟨.hbm, 176, rfl⟩
abbrev main_call0_call0_call0_c_26 : Ref sig .tc := ⟨.hbm, 177, rfl⟩
abbrev main_call0_call0_call0_v106 : Ref sig .tc := ⟨.hbm, 178, rfl⟩
abbrev main_call0_call0_call0_v107 : Ref sig .tc := ⟨.hbm, 179, rfl⟩
abbrev main_call0_call0_call0_v108 : Ref sig .tc := ⟨.hbm, 180, rfl⟩
abbrev main_call0_call0_call0_c_27 : Ref sig .tc := ⟨.hbm, 181, rfl⟩
abbrev main_call0_call0_call0_v109 : Ref sig .tc := ⟨.hbm, 182, rfl⟩
abbrev main_call0_call0_call0_v110 : Ref sig .tc := ⟨.hbm, 183, rfl⟩
abbrev main_call0_call0_call0_c_28 : Ref sig .tc := ⟨.hbm, 184, rfl⟩
abbrev main_call0_call0_call0_v111 : Ref sig .tc := ⟨.hbm, 185, rfl⟩
abbrev main_call0_call0_call0_v112 : Ref sig .tc := ⟨.hbm, 186, rfl⟩
abbrev main_call0_call0_call0_v113 : Ref sig .tc := ⟨.hbm, 187, rfl⟩
abbrev main_call0_call0_call0_v114 : Ref sig .tc := ⟨.hbm, 188, rfl⟩
abbrev main_call0_call0_call0_v115 : Ref sig .tc := ⟨.hbm, 189, rfl⟩
abbrev main_call0_call0_call0_c_29 : Ref sig .tc := ⟨.hbm, 190, rfl⟩
abbrev main_call0_call0_call0_v116 : Ref sig .tc := ⟨.hbm, 191, rfl⟩
abbrev main_call0_call0_call0_v117 : Ref sig .tc := ⟨.hbm, 192, rfl⟩
abbrev main_call0_call0_call0_c_30 : Ref sig .tc := ⟨.hbm, 193, rfl⟩
abbrev main_call0_call0_call0_v118 : Ref sig .tc := ⟨.hbm, 194, rfl⟩
abbrev main_call0_call0_call0_v119 : Ref sig .tc := ⟨.hbm, 195, rfl⟩
abbrev main_call0_call0_call0_v120 : Ref sig .tc := ⟨.hbm, 196, rfl⟩
abbrev main_call0_call0_call0_v121 : Ref sig .tc := ⟨.hbm, 197, rfl⟩
abbrev main_call0_call0_call0_v122 : Ref sig .tc := ⟨.hbm, 198, rfl⟩
abbrev main_call0_call0_call0_c_31 : Ref sig .tc := ⟨.hbm, 199, rfl⟩
abbrev main_call0_call0_call0_v123 : Ref sig .tc := ⟨.hbm, 200, rfl⟩
abbrev main_call0_call0_call0_v124 : Ref sig .tc := ⟨.hbm, 201, rfl⟩
abbrev main_call0_call0_call0_c_32 : Ref sig .tc := ⟨.hbm, 202, rfl⟩
abbrev main_call0_call0_call0_v125 : Ref sig .tc := ⟨.hbm, 203, rfl⟩
abbrev main_call0_call0_call0_v126 : Ref sig .tc := ⟨.hbm, 204, rfl⟩
abbrev main_call0_call0_call0_v127 : Ref sig .tc := ⟨.hbm, 205, rfl⟩
abbrev main_call0_call0_call0_v128 : Ref sig .tc := ⟨.hbm, 206, rfl⟩
abbrev main_call0_call0_call0_v129 : Ref sig .tc := ⟨.hbm, 207, rfl⟩
abbrev main_call0_call0_call0_c_33 : Ref sig .tc := ⟨.hbm, 208, rfl⟩
abbrev main_call0_call0_call0_v130 : Ref sig .tc := ⟨.hbm, 209, rfl⟩
abbrev main_call0_call0_call0_v131 : Ref sig .tc := ⟨.hbm, 210, rfl⟩
abbrev main_call0_call0_call0_c_34 : Ref sig .tc := ⟨.hbm, 211, rfl⟩
abbrev main_call0_call0_call0_v132 : Ref sig .tc := ⟨.hbm, 212, rfl⟩
abbrev main_call0_call0_call0_v133 : Ref sig .tc := ⟨.hbm, 213, rfl⟩
abbrev main_call0_call0_call0_v134 : Ref sig .tc := ⟨.hbm, 214, rfl⟩
abbrev main_call0_call0_call0_v135 : Ref sig .tc := ⟨.hbm, 215, rfl⟩
abbrev main_call0_call0_call0_v136 : Ref sig .tc := ⟨.hbm, 216, rfl⟩
abbrev main_call0_call0_call0_v137 : Ref sig .tc := ⟨.hbm, 217, rfl⟩
abbrev main_call0_call0_call0_v138 : Ref sig .tc := ⟨.hbm, 218, rfl⟩
abbrev main_call0_call0_call0_v139 : Ref sig .tc := ⟨.hbm, 219, rfl⟩
abbrev main_call0_call0_call0_c_35 : Ref sig .tc := ⟨.hbm, 220, rfl⟩
abbrev main_call0_call0_call0_v140 : Ref sig .tc := ⟨.hbm, 221, rfl⟩
abbrev main_call0_call0_call0_v141 : Ref sig .tc := ⟨.hbm, 222, rfl⟩
abbrev main_call0_call0_call0_v142 : Ref sig .tc := ⟨.hbm, 223, rfl⟩
abbrev main_call0_call0_call0_c_36 : Ref sig .tc := ⟨.hbm, 224, rfl⟩
abbrev main_call0_call0_call0_v143 : Ref sig .tc := ⟨.hbm, 225, rfl⟩
abbrev main_call0_call0_call0_v144 : Ref sig .tc := ⟨.hbm, 226, rfl⟩
abbrev main_call0_call0_call0_c_37 : Ref sig .tc := ⟨.hbm, 227, rfl⟩
abbrev main_call0_call0_call0_v145 : Ref sig .tc := ⟨.hbm, 228, rfl⟩
abbrev main_call0_call0_call0_v146 : Ref sig .tc := ⟨.hbm, 229, rfl⟩
abbrev main_call0_call0_call0_v147 : Ref sig .tc := ⟨.hbm, 230, rfl⟩
abbrev main_call0_call0_call0_v148 : Ref sig .tc := ⟨.hbm, 231, rfl⟩
abbrev main_call0_call0_call0_v149 : Ref sig .tc := ⟨.hbm, 232, rfl⟩
abbrev main_call0_call0_call0_c_38 : Ref sig .tc := ⟨.hbm, 233, rfl⟩
abbrev main_call0_call0_call0_v150 : Ref sig .tc := ⟨.hbm, 234, rfl⟩
abbrev main_call0_call0_call0_v151 : Ref sig .tc := ⟨.hbm, 235, rfl⟩
abbrev main_call0_call0_call0_c_39 : Ref sig .tc := ⟨.hbm, 236, rfl⟩
abbrev main_call0_call0_call0_v152 : Ref sig .tc := ⟨.hbm, 237, rfl⟩
abbrev main_call0_call0_call0_v153 : Ref sig .tc := ⟨.hbm, 238, rfl⟩
abbrev main_call0_call0_call0_v154 : Ref sig .tc := ⟨.hbm, 239, rfl⟩
abbrev main_call0_call0_call0_v155 : Ref sig .tc := ⟨.hbm, 240, rfl⟩
abbrev main_call0_call0_call0_v156 : Ref sig .tc := ⟨.hbm, 241, rfl⟩
abbrev main_call0_call0_call0_c_40 : Ref sig .tc := ⟨.hbm, 242, rfl⟩
abbrev main_call0_call0_call0_v157 : Ref sig .tc := ⟨.hbm, 243, rfl⟩
abbrev main_call0_call0_call0_v158 : Ref sig .tc := ⟨.hbm, 244, rfl⟩
abbrev main_call0_call0_call0_c_41 : Ref sig .tc := ⟨.hbm, 245, rfl⟩
abbrev main_call0_call0_call0_v159 : Ref sig .tc := ⟨.hbm, 246, rfl⟩
abbrev main_call0_call0_call0_v160 : Ref sig .tc := ⟨.hbm, 247, rfl⟩
abbrev main_call0_call0_call0_v161 : Ref sig .tc := ⟨.hbm, 248, rfl⟩
abbrev main_call0_call0_call0_v162 : Ref sig .tc := ⟨.hbm, 249, rfl⟩
abbrev main_call0_call0_call0_v163 : Ref sig .tc := ⟨.hbm, 250, rfl⟩
abbrev main_call0_call0_call0_c_42 : Ref sig .tc := ⟨.hbm, 251, rfl⟩
abbrev main_call0_call0_call0_v164 : Ref sig .tc := ⟨.hbm, 252, rfl⟩
abbrev main_call0_call0_call0_v165 : Ref sig .tc := ⟨.hbm, 253, rfl⟩
abbrev main_call0_call0_call0_c_43 : Ref sig .tc := ⟨.hbm, 254, rfl⟩
abbrev main_call0_call0_call0_v166 : Ref sig .tc := ⟨.hbm, 255, rfl⟩
abbrev main_call0_call0_call0_v167 : Ref sig .tc := ⟨.hbm, 256, rfl⟩
abbrev main_call0_call0_call0_v168 : Ref sig .tc := ⟨.hbm, 257, rfl⟩
abbrev main_call0_call0_call0_v169 : Ref sig .tc := ⟨.hbm, 258, rfl⟩
abbrev main_call0_call0_call0_v170 : Ref sig .tc := ⟨.hbm, 259, rfl⟩
abbrev main_call0_call0_v22_0 : Ref sig .tc := ⟨.hbm, 260, rfl⟩
abbrev main_call0_call0_call0_v172 : Ref sig .tc := ⟨.hbm, 261, rfl⟩
abbrev main_call0_call0_call0_v173 : Ref sig .tc := ⟨.hbm, 262, rfl⟩
abbrev main_call0_call0_call0_c_44 : Ref sig .tc := ⟨.hbm, 263, rfl⟩
abbrev main_call0_call0_call0_v174 : Ref sig .tc := ⟨.hbm, 264, rfl⟩
abbrev main_call0_call0_v22_1 : Ref sig .tc := ⟨.hbm, 265, rfl⟩
abbrev main_call0_call0_v23 : Ref sig .tc := ⟨.hbm, 266, rfl⟩
abbrev main_call0_call0_c_3 : Ref sig .tc := ⟨.hbm, 267, rfl⟩
abbrev main_call0_call0_v24 : Ref sig .tc := ⟨.hbm, 268, rfl⟩
abbrev main_call0_call0_v25 : Ref sig .tc := ⟨.hbm, 269, rfl⟩
abbrev main_call0_call0_c_4 : Ref sig .tc := ⟨.hbm, 270, rfl⟩
abbrev main_call0_call0_v26 : Ref sig .tc := ⟨.hbm, 271, rfl⟩
abbrev main_call0_call0_v27 : Ref sig .tc := ⟨.hbm, 272, rfl⟩
abbrev main_call0_call0_v28 : Ref sig .tc := ⟨.hbm, 273, rfl⟩
abbrev main_call0_call0_cst : Ref sig .tc := ⟨.hbm, 274, rfl⟩
abbrev main_call0_call0_v29 : Ref sig .tc := ⟨.hbm, 275, rfl⟩
abbrev main_call0_call0_v30 : Ref sig .tc := ⟨.hbm, 276, rfl⟩
abbrev main_call0_call0_v31 : Ref sig .tc := ⟨.hbm, 277, rfl⟩
abbrev main_call0_call0_v32 : Ref sig .tc := ⟨.hbm, 278, rfl⟩
abbrev main_call0_call0_v33 : Ref sig .tc := ⟨.hbm, 279, rfl⟩
abbrev main_call0_call0_v34 : Ref sig .tc := ⟨.hbm, 280, rfl⟩
abbrev main_call0_call0_v35 : Ref sig .tc := ⟨.hbm, 281, rfl⟩
abbrev main_call0_call0_v36 : Ref sig .tc := ⟨.hbm, 282, rfl⟩
abbrev main_call0_v0 : Ref sig .tc := ⟨.hbm, 283, rfl⟩
abbrev main_call0_v1 : Ref sig .tc := ⟨.hbm, 284, rfl⟩
abbrev main_call0_v2 : Ref sig .tc := ⟨.hbm, 285, rfl⟩
abbrev main_call0_v3 : Ref sig .tc := ⟨.hbm, 286, rfl⟩
abbrev main_v8 : Ref sig .tc := ⟨.hbm, 287, rfl⟩
abbrev main_v9 : Ref sig .tc := ⟨.hbm, 288, rfl⟩
abbrev main_v10 : Ref sig .tc := ⟨.hbm, 289, rfl⟩
abbrev main_v11 : Ref sig .tc := ⟨.hbm, 290, rfl⟩
abbrev main_call1_v0 : Ref sig .tc := ⟨.hbm, 291, rfl⟩
abbrev main_call1_cst : Ref sig .tc := ⟨.hbm, 292, rfl⟩
abbrev main_call1_c : Ref sig .tc := ⟨.hbm, 293, rfl⟩
abbrev main_call1_v1_0 : Ref sig .tc := ⟨.hbm, 294, rfl⟩
abbrev main_v12 : Ref sig .tc := ⟨.hbm, 295, rfl⟩
abbrev main_v13 : Ref sig .tc := ⟨.hbm, 296, rfl⟩
abbrev main_v14 : Ref sig .tc := ⟨.hbm, 297, rfl⟩
abbrev main_call2_c : Ref sig .tc := ⟨.hbm, 298, rfl⟩
abbrev main_call2_v0 : Ref sig .tc := ⟨.hbm, 299, rfl⟩
abbrev main_call2_v1 : Ref sig .tc := ⟨.hbm, 300, rfl⟩
abbrev main_call2_c_0 : Ref sig .tc := ⟨.hbm, 301, rfl⟩
abbrev main_call2_v2 : Ref sig .tc := ⟨.hbm, 302, rfl⟩
abbrev main_call2_v3 : Ref sig .tc := ⟨.hbm, 303, rfl⟩
abbrev main_call2_v4 : Ref sig .tc := ⟨.hbm, 304, rfl⟩
abbrev main_call2_v5 : Ref sig .tc := ⟨.hbm, 305, rfl⟩
abbrev main_call2_c_1 : Ref sig .tc := ⟨.hbm, 306, rfl⟩
abbrev main_call2_c_2 : Ref sig .tc := ⟨.hbm, 307, rfl⟩
abbrev main_call2_v6 : Ref sig .tc := ⟨.hbm, 308, rfl⟩
abbrev main_call2_v7 : Ref sig .tc := ⟨.hbm, 309, rfl⟩
abbrev main_call2_v8 : Ref sig .tc := ⟨.hbm, 310, rfl⟩
abbrev main_call2_v9 : Ref sig .tc := ⟨.hbm, 311, rfl⟩
abbrev main_call2_v10 : Ref sig .tc := ⟨.hbm, 312, rfl⟩
abbrev main_call2_v11 : Ref sig .tc := ⟨.hbm, 313, rfl⟩
abbrev main_call2_c_3 : Ref sig .tc := ⟨.hbm, 314, rfl⟩
abbrev main_call2_v12 : Ref sig .tc := ⟨.hbm, 315, rfl⟩
abbrev main_call2_v13 : Ref sig .tc := ⟨.hbm, 316, rfl⟩
abbrev main_call2_v14 : Ref sig .tc := ⟨.hbm, 317, rfl⟩
abbrev main_call2_cst : Ref sig .tc := ⟨.hbm, 318, rfl⟩
abbrev main_call2_v15 : Ref sig .tc := ⟨.hbm, 319, rfl⟩
abbrev main_v15 : Ref sig .tc := ⟨.hbm, 320, rfl⟩
abbrev main_call3_c : Ref sig .tc := ⟨.hbm, 321, rfl⟩
abbrev main_call3_v0 : Ref sig .tc := ⟨.hbm, 322, rfl⟩
abbrev main_call3_v1 : Ref sig .tc := ⟨.hbm, 323, rfl⟩
abbrev main_call3_c_0 : Ref sig .tc := ⟨.hbm, 324, rfl⟩
abbrev main_call3_v2 : Ref sig .tc := ⟨.hbm, 325, rfl⟩
abbrev main_call3_v3 : Ref sig .tc := ⟨.hbm, 326, rfl⟩
abbrev main_call3_v4 : Ref sig .tc := ⟨.hbm, 327, rfl⟩
abbrev main_call3_v5 : Ref sig .tc := ⟨.hbm, 328, rfl⟩
abbrev main_call3_c_1 : Ref sig .tc := ⟨.hbm, 329, rfl⟩
abbrev main_call3_c_2 : Ref sig .tc := ⟨.hbm, 330, rfl⟩
abbrev main_call3_v6 : Ref sig .tc := ⟨.hbm, 331, rfl⟩
abbrev main_call3_v7 : Ref sig .tc := ⟨.hbm, 332, rfl⟩
abbrev main_call3_v8 : Ref sig .tc := ⟨.hbm, 333, rfl⟩
abbrev main_call3_v9 : Ref sig .tc := ⟨.hbm, 334, rfl⟩
abbrev main_call3_v10 : Ref sig .tc := ⟨.hbm, 335, rfl⟩
abbrev main_call3_v11 : Ref sig .tc := ⟨.hbm, 336, rfl⟩
abbrev main_call3_c_3 : Ref sig .tc := ⟨.hbm, 337, rfl⟩
abbrev main_call3_v12 : Ref sig .tc := ⟨.hbm, 338, rfl⟩
abbrev main_call3_v13 : Ref sig .tc := ⟨.hbm, 339, rfl⟩
abbrev main_call3_cst : Ref sig .tc := ⟨.hbm, 340, rfl⟩
abbrev main_call3_v14 : Ref sig .tc := ⟨.hbm, 341, rfl⟩
abbrev main_v16 : Ref sig .tc := ⟨.hbm, 342, rfl⟩
abbrev main_v17 : Ref sig .tc := ⟨.hbm, 343, rfl⟩
abbrev main_v18 : Ref sig .tc := ⟨.hbm, 344, rfl⟩
abbrev main_cst : Ref sig .tc := ⟨.hbm, 345, rfl⟩
abbrev main_v19 : Ref sig .tc := ⟨.hbm, 346, rfl⟩
abbrev main_v20 : Ref sig .tc := ⟨.hbm, 347, rfl⟩
abbrev main_v21 : Ref sig .tc := ⟨.hbm, 348, rfl⟩
abbrev main_v22 : Ref sig .tc := ⟨.hbm, 349, rfl⟩
abbrev main_v23 : Ref sig .tc := ⟨.hbm, 350, rfl⟩
abbrev main_v24 : Ref sig .tc := ⟨.hbm, 351, rfl⟩
abbrev main_call4_c : Ref sig .tc := ⟨.hbm, 352, rfl⟩
abbrev main_call4_v0 : Ref sig .tc := ⟨.hbm, 353, rfl⟩
abbrev main_call4_v1 : Ref sig .tc := ⟨.hbm, 354, rfl⟩
abbrev main_call4_c_0 : Ref sig .tc := ⟨.hbm, 355, rfl⟩
abbrev main_call4_v2 : Ref sig .tc := ⟨.hbm, 356, rfl⟩
abbrev main_call4_v3 : Ref sig .tc := ⟨.hbm, 357, rfl⟩
abbrev main_call4_v4 : Ref sig .tc := ⟨.hbm, 358, rfl⟩
abbrev main_call4_v5 : Ref sig .tc := ⟨.hbm, 359, rfl⟩
abbrev main_call4_c_1 : Ref sig .tc := ⟨.hbm, 360, rfl⟩
abbrev main_call4_c_2 : Ref sig .tc := ⟨.hbm, 361, rfl⟩
abbrev main_call4_v6 : Ref sig .tc := ⟨.hbm, 362, rfl⟩
abbrev main_call4_v7 : Ref sig .tc := ⟨.hbm, 363, rfl⟩
abbrev main_call4_v8 : Ref sig .tc := ⟨.hbm, 364, rfl⟩
abbrev main_call4_v9 : Ref sig .tc := ⟨.hbm, 365, rfl⟩
abbrev main_call4_v10 : Ref sig .tc := ⟨.hbm, 366, rfl⟩
abbrev main_call4_v11 : Ref sig .tc := ⟨.hbm, 367, rfl⟩
abbrev main_call4_c_3 : Ref sig .tc := ⟨.hbm, 368, rfl⟩
abbrev main_call4_v12 : Ref sig .tc := ⟨.hbm, 369, rfl⟩
abbrev main_call4_v13 : Ref sig .tc := ⟨.hbm, 370, rfl⟩
abbrev main_call4_cst : Ref sig .tc := ⟨.hbm, 371, rfl⟩
abbrev main_call4_v14 : Ref sig .tc := ⟨.hbm, 372, rfl⟩
abbrev main_v25 : Ref sig .tc := ⟨.hbm, 373, rfl⟩
abbrev main_call5_c : Ref sig .tc := ⟨.hbm, 374, rfl⟩
abbrev main_call5_v0 : Ref sig .tc := ⟨.hbm, 375, rfl⟩
abbrev main_call5_v1 : Ref sig .tc := ⟨.hbm, 376, rfl⟩
abbrev main_call5_c_0 : Ref sig .tc := ⟨.hbm, 377, rfl⟩
abbrev main_call5_v2 : Ref sig .tc := ⟨.hbm, 378, rfl⟩
abbrev main_call5_v3 : Ref sig .tc := ⟨.hbm, 379, rfl⟩
abbrev main_call5_v4 : Ref sig .tc := ⟨.hbm, 380, rfl⟩
abbrev main_call5_v5 : Ref sig .tc := ⟨.hbm, 381, rfl⟩
abbrev main_call5_c_1 : Ref sig .tc := ⟨.hbm, 382, rfl⟩
abbrev main_call5_c_2 : Ref sig .tc := ⟨.hbm, 383, rfl⟩
abbrev main_call5_v6 : Ref sig .tc := ⟨.hbm, 384, rfl⟩
abbrev main_call5_v7 : Ref sig .tc := ⟨.hbm, 385, rfl⟩
abbrev main_call5_v8 : Ref sig .tc := ⟨.hbm, 386, rfl⟩
abbrev main_call5_v9 : Ref sig .tc := ⟨.hbm, 387, rfl⟩
abbrev main_call5_v10 : Ref sig .tc := ⟨.hbm, 388, rfl⟩
abbrev main_call5_v11 : Ref sig .tc := ⟨.hbm, 389, rfl⟩
abbrev main_call5_c_3 : Ref sig .tc := ⟨.hbm, 390, rfl⟩
abbrev main_call5_v12 : Ref sig .tc := ⟨.hbm, 391, rfl⟩
abbrev main_call5_v13 : Ref sig .tc := ⟨.hbm, 392, rfl⟩
abbrev main_call5_cst : Ref sig .tc := ⟨.hbm, 393, rfl⟩
abbrev main_call5_v14 : Ref sig .tc := ⟨.hbm, 394, rfl⟩
abbrev main_v26 : Ref sig .tc := ⟨.hbm, 395, rfl⟩
abbrev main_cst_2 : Ref sig .tc := ⟨.hbm, 396, rfl⟩
abbrev main_v27 : Ref sig .tc := ⟨.hbm, 397, rfl⟩
abbrev main_v28 : Ref sig .tc := ⟨.hbm, 398, rfl⟩
abbrev main_v29 : Ref sig .tc := ⟨.hbm, 399, rfl⟩
abbrev main_v30 : Ref sig .tc := ⟨.hbm, 400, rfl⟩
abbrev main_v31 : Ref sig .tc := ⟨.hbm, 401, rfl⟩
abbrev main_cst_3 : Ref sig .tc := ⟨.hbm, 402, rfl⟩
abbrev main_v32 : Ref sig .tc := ⟨.hbm, 403, rfl⟩
abbrev main_v33 : Ref sig .tc := ⟨.hbm, 404, rfl⟩
abbrev main_cst_4 : Ref sig .tc := ⟨.hbm, 405, rfl⟩
abbrev main_v34 : Ref sig .tc := ⟨.hbm, 406, rfl⟩
abbrev main_v35 : Ref sig .tc := ⟨.hbm, 407, rfl⟩
abbrev main_v36 : Ref sig .tc := ⟨.hbm, 408, rfl⟩
abbrev main_v37 : Ref sig .tc := ⟨.hbm, 409, rfl⟩
abbrev main_v38 : Ref sig .tc := ⟨.hbm, 410, rfl⟩
abbrev main_cst_5 : Ref sig .tc := ⟨.hbm, 411, rfl⟩
abbrev main_v39 : Ref sig .tc := ⟨.hbm, 412, rfl⟩
abbrev main_v40 : Ref sig .tc := ⟨.hbm, 413, rfl⟩
abbrev main_cst_6 : Ref sig .tc := ⟨.hbm, 414, rfl⟩
abbrev main_v41 : Ref sig .tc := ⟨.hbm, 415, rfl⟩
abbrev main_cst_7 : Ref sig .tc := ⟨.hbm, 416, rfl⟩
abbrev main_v42 : Ref sig .tc := ⟨.hbm, 417, rfl⟩
abbrev main_cst_8 : Ref sig .tc := ⟨.hbm, 418, rfl⟩
abbrev main_v43 : Ref sig .tc := ⟨.hbm, 419, rfl⟩

abbrev nD : Nat := 1
abbrev τ : Topo := Topo.v7x

variable {F : FTy → Type} [FloatOps F]
-- ==== Proof.KBlock.lean ====
/- The kernel's block: what its body adds to the accumulated loss at one grid point. -/
module

public import proofs.«01_k».proof.Proof.Gen.KernelIdeal.Read
public import Idealize.ShloMosaic.Lib.Pipeline.Value
public import Idealize.ShloMosaic.Lib.Tactic

@[expose] public section

noncomputable section

namespace Cert.KernelIdeal.Block

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- A column of the block of words is inside the block. -/
theorem slices_col (k : Nat) (hk : k < 51) : S256x51.Slices ![0, k] S256x1 := by
  refine ⟨rfl, fun a => ?_⟩
  match a with
  | ⟨0, _⟩ => exact Nat.le_refl 256
  | ⟨1, _⟩ => show k + 1 ≤ 51; omega

/-- Where the lane is the row's word of column `k`. -/
abbrev hit (v11 : IVec S256x51 32) (k : Nat) (hk : k < 51) : IVec S256x1000 1 :=
  cmpi .eq (iota .tc S256x1000 32 [1] iota_S256x1000_d1_w32)
    (broadcastTo S256x1000 (extractStridedSlice S256x1 ![0, k] v11 (slices_col k hk)) broadcasts_S256x1_S256x1000)

/-- The entry of each row of `v` in the lane of the row's word of column `k`. -/
abbrev pick (v11 : IVec S256x51 32) (k : Nat) (hk : k < 51) (v : FVec F S256x1000 .f32) : FVec F S256x1 .f32 :=
  shapeCast S256x1 (multiReduction .add [1] S256
    (select (hit v11 k hk) v (broadcast S256x1000 (Scalar.ofBits .f32 0x00000000#32)))
    0x00000000#32 reduces_S256x1000_S256 (.inl rfl) rfl) shapeCasts_S256_S256x1

/-- A logit less the normaliser. -/
abbrev score (l : FVec F S256x1 .f32) : FVec F S256x1 .f32 := subf l (broadcast S256x1 (Scalar.ofBits .f32 0x41100000#32))

/-- The term of a target word, from its logit and its noise weight. -/
abbrev dataTerm (l kn : FVec F S256x1 .f32) : FVec F S256x1 .f32 := subf (score l) (log (addf (exp (score l)) kn))

/-- The term of a sampled word, from its logit and its noise weight. -/
abbrev noiseTerm (l kn : FVec F S256x1 .f32) : FVec F S256x1 .f32 := subf (log kn) (log (addf (exp (score l)) kn))

/-- The terms of the first `k + 1` words of each row, added up. -/
def chain (lg : FVec F S256x1000 .f32) (kn : FVec F S256x1000 .f32) (v11 : IVec S256x51 32) : (k : Nat) → k < 51 → FVec F S256x1 .f32
  | 0, h => addf (broadcast S256x1 (Scalar.ofBits .f32 0x00000000#32)) (dataTerm (pick v11 0 h lg) (pick v11 0 h kn))
  | k + 1, h => addf (chain lg kn v11 k (Nat.lt_of_succ_lt h)) (noiseTerm (pick v11 (k + 1) h lg) (pick v11 (k + 1) h kn))

/-- The rows' totals, added up. -/
abbrev total (v : FVec F S256x1 .f32) : F .f32 :=
  extractAt ![0, 0, 0] (shapeCast S1x1x1 (multiReduction .add [1, 2] S1 (shapeCast S1x256x1 v shapeCasts_S256x1_S1x256x1) 0x00000000#32
    reduces_S1x256x1_S1 (.inl rfl) rfl) shapeCasts_S1_S1x1x1) inpos_S1x1x1_p0_0_0

/-- What one grid point adds to the loss. -/
def point (x0 : Vec F S256x64 .f32) (x1 : Vec F S64x1000 .f32) (x2 x3 : Vec F S1x1000 .f32) (x4 : Vec F S256x51 .i32) : F .f32 :=
  total (chain (k0_pay3 x0 x1 x2) (k0_pay5 x3) (k0_pay4 x4) 50 (by decide))

/-- The stored block: the block read, plus the point's sum. -/
theorem stored_eq (p : F .f32) (xo : Vec F S1x1 .f32) : k0_pay2 p xo = addf xo (broadcast S1x1 p) := by
  unfold k0_pay2
  rw [shapeCast_self]

/-- What a later point leaves in the accumulator: what was there, plus the point's sum. -/
theorem out_B (c : Dev nD) (i : grid0.Coords) (a1 : Memref sig .tc .vmem S256x64 .f32) (h1 : a1.IsWhole)
    (a2 : Memref sig .tc .vmem S64x1000 .f32) (h2 : a2.IsWhole) (a3 : Memref sig .tc .vmem S1x1000 .f32) (h3 : a3.IsWhole)
    (a4 : Memref sig .tc .vmem S1x1000 .f32) (h4 : a4.IsWhole) (a5 : Memref sig .tc .vmem S256x51 .i32) (h5 : a5.IsWhole)
    (a6 : Memref sig .tc .vmem S1x1 .f32) (h6 : a6.IsWhole) (hc : ¬cond0_0 i)
    (x0 : Vec F S256x64 .f32) (x1 : Vec F S64x1000 .f32) (x2 x3 : Vec F S1x1000 .f32) (x4 : Vec F S256x51 .i32) (xo : Vec F S1x1 .f32) :
    out0_B_5 c i a1 h1 a2 h2 a3 h3 a4 h4 a5 h5 a6 h6 hc x0 x1 x2 x3 x4 xo = addf xo (broadcast S1x1 (point x0 x1 x2 x3 x4)) := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S256x64) hz, View.ld_unit_zero (S := S64x1000) hz, View.ld_unit_zero (S := S1x1000) hz, View.ld_unit_zero (S := S256x51) hz, View.ld_unit_zero (S := S1x1) hz]
  rw [stored_eq]
  refine congrArg (fun p => addf xo (broadcast S1x1 p)) ?_
  rfl

/-- What the first point leaves in the accumulator: zero, plus the point's sum. -/
theorem out_A (c : Dev nD) (i : grid0.Coords) (a1 : Memref sig .tc .vmem S256x64 .f32) (h1 : a1.IsWhole)
    (a2 : Memref sig .tc .vmem S64x1000 .f32) (h2 : a2.IsWhole) (a3 : Memref sig .tc .vmem S1x1000 .f32) (h3 : a3.IsWhole)
    (a4 : Memref sig .tc .vmem S1x1000 .f32) (h4 : a4.IsWhole) (a5 : Memref sig .tc .vmem S256x51 .i32) (h5 : a5.IsWhole)
    (a6 : Memref sig .tc .vmem S1x1 .f32) (h6 : a6.IsWhole) (hc : cond0_0 i)
    (x0 : Vec F S256x64 .f32) (x1 : Vec F S64x1000 .f32) (x2 x3 : Vec F S1x1000 .f32) (x4 : Vec F S256x51 .i32) :
    out0_A_5 c i a1 h1 a2 h2 a3 h3 a4 h4 a5 h5 a6 h6 hc x0 x1 x2 x3 x4 = addf k0_pay1 (broadcast S1x1 (point x0 x1 x2 x3 x4)) := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, View.ld_unit_zero (S := S256x64) hz, View.ld_unit_zero (S := S64x1000) hz, View.ld_unit_zero (S := S1x1000) hz, View.ld_unit_zero (S := S256x51) hz]
  rw [stored_eq]
  refine congrArg (fun p => addf k0_pay1 (broadcast S1x1 p)) ?_
  rfl

/-- The sum of the points up to `n`, as the accumulator's one entry. -/
def running (c : Dev nD) : (n : ℕ) → n < cfg0.N → Vec F S1x1 .f32
  | 0, h => addf k0_pay1 (broadcast S1x1 (point (iblk m c 0 ⟨0, h⟩) (iblk m c 1 ⟨0, h⟩) (iblk m c 2 ⟨0, h⟩) (iblk m c 3 ⟨0, h⟩) (iblk m c 4 ⟨0, h⟩)))
  | n + 1, h => addf (running c n (Nat.lt_of_succ_lt h))
      (broadcast S1x1 (point (iblk m c 0 ⟨n + 1, h⟩) (iblk m c 1 ⟨n + 1, h⟩) (iblk m c 2 ⟨n + 1, h⟩) (iblk m c 3 ⟨n + 1, h⟩) (iblk m c 4 ⟨n + 1, h⟩)))

/-- After point `n` the accumulator holds the sum of the points up to `n`. -/
theorem outsAt_eq (c : Dev nD) : ∀ (n : ℕ) (h : n < cfg0.N), outsAt0 m c n h = running m c n h
  | 0, h => (outsAt0_A m c ⟨0, h⟩ rfl).trans (out_A ..)
  | n + 1, h => by
    have hN : cfg0.N = 64 := N_0
    have hB : ¬(⟨n + 1, h⟩ : Fin cfg0.N).val % 64 = 0 := by dsimp only; omega
    rw [outsAt0_B m c ⟨n + 1, h⟩ hB, out_B]
    show addf (outsAt0 m c n _) _ = addf (running m c n _) _
    rw [outsAt_eq c n]

/-- The last grid point. -/
def last : Fin cfg0.N := ⟨63, by rw [show cfg0.N = 64 from N_0]; decide⟩

/-- The accumulator at the end. -/
abbrev result (c : Dev nD) : Buf (Elt F) ((c : Thread nD τ).loc main_v20) := running m c 63 last.isLt

theorem flushed_eq (c : Dev nD) (t : Fin cfg0.N) (hf : (cfg0.win 5).flush t = true) :
    (dats m 0 c).flushed 5 t = ((cfg0.win 5).blk t).view.read (Elt F) (result m c) := by
  have hN : cfg0.N = 64 := N_0
  have h3 : t.val = 63 := by have := (flush0_5 t).mp hf; have := t.isLt; omega
  obtain rfl : t = last := Fin.ext h3
  show (cfg0.win 5).cut (grid0.coords last) ((dats m 0 c).after 5 last) = _
  rw [after0_5, outsAt_eq]
  have hz' : (fun a => win0_5.index last a * main_v20.ty.shape.size a) = fun _ => 0 := funext fun a => by fin_cases a <;> decide
  exact (Memref.read_access_unit_zero (Elt F) main_v20 hz' (fun a => by rw [congrFun hz' a]; simp) (result m c)).symm

/-- The result array ends holding the accumulator of the last point. -/
theorem final_o (c : Dev nD) : reg_main_v20 m c = result m c :=
  (dats m 0 c).arrAt_eq_of_cover 5 (result m c) (flushed_eq m c) fun i =>
    ⟨last, (flush0_5 last).mpr rfl, by
      show i ∈ ((View.whole main_v20).slice (win0_5.rect last)).set
      rw [View.set_slice_whole, Rect.mem_set_unit]
      have h0 : ∀ a, (i a : Nat) < 1 := fun a => by match a with | ⟨0, _⟩ => exact (i 0).isLt | ⟨1, _⟩ => exact (i 1).isLt
      have e : ∀ a, win0_5.index last a * win0_5.size a = 0 ∧ win0_5.xsize (grid0.coords last) a = 1 := by decide +kernel
      intro a
      have := h0 a
      have := e a
      show win0_5.index last a * win0_5.size a ≤ (i a : Nat) ∧ (i a : Nat) < win0_5.index last a * win0_5.size a + win0_5.xsize (grid0.coords last) a
      omega⟩

end Cert.KernelIdeal.Block

end
-- ==== Proof.Terms.lean ====
/- The terms of the loss over the extended reals, as the kernel writes them and as the reference writes them. -/
module

public import Idealize.ShloMosaic.PureOps.Ideal
public import Idealize.ShloMosaic.Lib.Pointwise

@[expose] public section

noncomputable section

namespace Cert.Terms

open Idealize.ShloMosaic

/-- The normaliser. -/
def norm : EReal := Ideal.ofBits .f32 0x41100000#32

/-- A target word's term as a difference of logarithms, from its logit `l` and `q`, the samples' number times its noise. -/
def dataTerm (l q : EReal) : EReal := (l - norm) - Ideal.log (Ideal.exp (l - norm) + q)

/-- A sampled word's term as a difference of logarithms. -/
def noiseTerm (l q : EReal) : EReal := Ideal.log q - Ideal.log (Ideal.exp (l - norm) + q)

/-- The logit of a word in a row. -/
def logit (x : Fin 16384 → Fin 64 → EReal) (wt : Fin 1000 → Fin 64 → EReal) (b : Fin 1000 → EReal) (n : Fin 16384) (w : Fin 1000) : EReal :=
  (∑ e : Fin 64, x n e * wt w e) + b w

/-- The samples' number times a word's noise. -/
def weight (nz : Fin 1000 → EReal) (w : Fin 1000) : EReal := Ideal.ofBits .f32 0x42480000#32 * nz w

/-- The loss of a row, from its words. -/
def rowLoss (x : Fin 16384 → Fin 64 → EReal) (wt : Fin 1000 → Fin 64 → EReal) (b nz : Fin 1000 → EReal)
    (wd : Fin 16384 → Fin 51 → Fin 1000) (n : Fin 16384) : EReal :=
  dataTerm (logit x wt b n (wd n 0)) (weight nz (wd n 0))
    + ∑ i : Fin 50, noiseTerm (logit x wt b n (wd n i.succ)) (weight nz (wd n i.succ))

theorem log_bot : Ideal.log ⊥ = ⊥ := rfl
theorem log_top : Ideal.log ⊤ = ⊤ := rfl
theorem log_of_nonpos {r : ℝ} (h : r ≤ 0) : Ideal.log (r : EReal) = ⊥ := if_pos h
theorem log_of_pos {r : ℝ} (h : 0 < r) : Ideal.log (r : EReal) = (Real.log r : ℝ) := if_neg (not_le.mpr h)
theorem log_zero : Ideal.log 0 = ⊥ := log_of_nonpos (r := 0) le_rfl
theorem exp_bot : Ideal.exp ⊥ = 0 := rfl
theorem exp_top : Ideal.exp ⊤ = ⊤ := rfl
theorem exp_coe (r : ℝ) : Ideal.exp (r : EReal) = (Real.exp r : ℝ) := rfl

/-- The logarithm of a quotient, when the divided is between zero and the divisor. -/
theorem log_div (a s : EReal) (ha : 0 ≤ a) (hs : a ≤ s) : Ideal.log (Ideal.div a s) = Ideal.log a - Ideal.log s := by
  induction s using EReal.rec with
  | bot => exact absurd (ha.trans hs) (by simp)
  | top => simp [Ideal.div, log_top, log_zero, EReal.sub_top]
  | coe s =>
    induction a using EReal.rec with
    | bot => exact absurd ha (by simp)
    | top => exact absurd hs (by simp)
    | coe a =>
      have ha' : 0 ≤ a := by exact_mod_cast ha
      have hs' : a ≤ s := by exact_mod_cast hs
      rcases ha'.eq_or_lt with h | h
      · subst h
        rcases hs'.eq_or_lt with h' | h'
        · subst h'; simp [Ideal.div, log_bot, log_zero]
        · have : ((s : ℝ) : EReal) ≠ 0 := by exact_mod_cast h'.ne'
          simp [Ideal.div, log_zero, h'.ne']
      · have hp : 0 < s := h.trans_le hs'
        have hn : ((s : ℝ) : EReal) ≠ 0 := by exact_mod_cast hp.ne'
        have e : Ideal.div (a : EReal) (s : EReal) = ((a / s : ℝ) : EReal) := by
          unfold Ideal.div
          rw [if_neg hn, div_eq_mul_inv, EReal.coe_mul, EReal.coe_inv]
        rw [e, log_of_pos (div_pos h hp), log_of_pos h, log_of_pos hp, Real.log_div h.ne' hp.ne', EReal.coe_sub]

theorem log_exp (l : EReal) : Ideal.log (Ideal.exp l) = l := by
  induction l using EReal.rec with
  | bot => rw [exp_bot, log_zero]
  | top => rw [exp_top, log_top]
  | coe l => rw [exp_coe, log_of_pos (Real.exp_pos l), Real.log_exp]

theorem exp_nonneg (l : EReal) : 0 ≤ Ideal.exp l := by
  induction l using EReal.rec with
  | bot => rw [exp_bot]
  | top => rw [exp_top]; exact le_top
  | coe l => rw [exp_coe]; exact_mod_cast (Real.exp_pos l).le

/-- A target word's term as the logarithm of its share of the total. -/
theorem dataTerm_eq (l q : EReal) (hq : 0 ≤ q) :
    Ideal.log (Ideal.div (Ideal.exp (l - norm)) (Ideal.exp (l - norm) + q)) = dataTerm l q := by
  rw [log_div _ _ (exp_nonneg _) (le_add_of_nonneg_right hq), log_exp]
  rfl

/-- A sampled word's term as the logarithm of its share of the total. -/
theorem noiseTerm_eq (l q : EReal) (hq : 0 ≤ q) : Ideal.log (Ideal.div q (Ideal.exp (l - norm) + q)) = noiseTerm l q := by
  rw [log_div _ _ hq (le_add_of_nonneg_left (exp_nonneg _))]
  rfl

theorem weight_nonneg (nz : Fin 1000 → EReal) (w : Fin 1000) (h : 0 ≤ nz w) : 0 ≤ weight nz w := by
  unfold weight
  refine mul_nonneg ?_ h
  simp [Ideal.ofBits, Ideal.ieee, -EReal.coe_mul]

end Cert.Terms

end
-- ==== Proof.KIdeal.lean ====
/- The kernel's block over the extended reals: the sum over its rows of the terms of the row's words. -/
module

public import proofs.«01_k».proof.Proof.KBlock
public import proofs.«01_k».proof.Proof.Terms
public import Idealize.ShloMosaic.Lib.Pointwise

@[expose] public section

noncomputable section

namespace Cert.KernelIdeal.Block

open Cert.KernelIdeal Cert.KernelIdeal.Gen Cert.KernelIdeal.Value Idealize.ShloMosaic Idealize.ShloMosaic.TcCoe Idealize.SL.Sem
open Idealize.ShloMosaic.Pointwise

/-- The sum over a row that keeps the lane of the row's word is the entry of that word. -/
theorem pick_apply (v11 : IVec S256x51 32) (k : Nat) (hk : k < 51) (v : FVec Ideal S256x1000 .f32) (r : Fin 256) (z : Fin 1) (w : Fin 1000)
    (hw : v11 (ix2 r ⟨k, hk⟩) = BitVec.ofNat 32 w.val) : pick v11 k hk v (ix2 r z) = v (ix2 r w) := by
  pointwise [pick, hit]
  rw [hw, Finset.sum_eq_single w]
  · simp [Scalar.select, IntOp.cmpi]
  · intro x _ hx
    have : BitVec.ofNat 32 x.val ≠ BitVec.ofNat 32 w.val := fun h => hx (Fin.ext (by
      have := congrArg BitVec.toNat h
      simp only [BitVec.toNat_ofNat] at this
      omega))
    have h0 : (BitVec.ofNat 32 x.val == BitVec.ofNat 32 w.val) = false := beq_eq_false_iff_ne.mpr this
    simp [Scalar.select, IntOp.cmpi, h0]
  · exact fun h => absurd (Finset.mem_univ w) h

theorem total_apply (v : FVec Ideal S256x1 .f32) : total v = ∑ r : Fin 256, v (ix2 r 0) := by
  pointwise [total]
  simp

theorem logits_apply (x0 : Vec Ideal S256x64 .f32) (x1 : Vec Ideal S64x1000 .f32) (x2 : Vec Ideal S1x1000 .f32) (r : Fin 256) (w : Fin 1000) :
    k0_pay3 x0 x1 x2 (ix2 r w) = (∑ e : Fin 64, x0 (ix2 r e) * x1 (ix2 e w)) + x2 (ix2 0 w) := by
  pointwise [k0_pay3]

theorem weights_apply (x3 : Vec Ideal S1x1000 .f32) (r : Fin 256) (w : Fin 1000) :
    k0_pay5 x3 (ix2 r w) = x3 (ix2 0 w) := by
  pointwise [k0_pay5]

theorem dataTerm_apply (l kn : FVec Ideal S256x1 .f32) (j : S256x1.Idx) : dataTerm l kn j = Terms.dataTerm (l j) (kn j) := rfl

theorem noiseTerm_apply (l kn : FVec Ideal S256x1 .f32) (j : S256x1.Idx) : noiseTerm l kn j = Terms.noiseTerm (l j) (kn j) := rfl

/-- A row's terms added up, word by word: the target's and then the samples'. -/
theorem chain_apply (lg kn : FVec Ideal S256x1000 .f32) (v11 : IVec S256x51 32) (r : Fin 256) (wd : Fin 51 → Fin 1000)
    (hw : ∀ k, v11 (ix2 r k) = BitVec.ofNat 32 (wd k).val) : (k : Nat) → (hk : k < 51) →
    chain lg kn v11 k hk (ix2 r 0) = Terms.dataTerm (lg (ix2 r (wd 0))) (kn (ix2 r (wd 0)))
      + ∑ i : Fin k, Terms.noiseTerm (lg (ix2 r (wd ⟨i.val + 1, by omega⟩))) (kn (ix2 r (wd ⟨i.val + 1, by omega⟩)))
  | 0, h => by
    show (Ideal.ofBits .f32 0x00000000#32 : EReal) + dataTerm _ _ (ix2 r 0) = _
    rw [dataTerm_apply, pick_apply v11 0 h lg r 0 (wd 0) (hw 0), pick_apply v11 0 h kn r 0 (wd 0) (hw 0)]
    simp
  | k + 1, h => by
    show chain lg kn v11 k _ (ix2 r 0) + noiseTerm _ _ (ix2 r 0) = _
    rw [noiseTerm_apply, pick_apply v11 (k + 1) h lg r 0 _ (hw ⟨k + 1, h⟩), pick_apply v11 (k + 1) h kn r 0 _ (hw ⟨k + 1, h⟩), Fin.sum_univ_castSucc,
      ← add_assoc, chain_apply lg kn v11 r wd hw k (Nat.lt_of_succ_lt h)]
    rfl

end Cert.KernelIdeal.Block

end
-- ==== Proof.KHost.lean ====
/- What the kernel's blocks hold, from what the host code before the call computes. -/
module

public import proofs.«01_k».proof.Proof.KIdeal

@[expose] public section

noncomputable section

namespace Cert.KernelIdeal.Block

open Cert.KernelIdeal Cert.KernelIdeal.Gen Cert.KernelIdeal.Value Idealize.ShloMosaic Idealize.ShloMosaic.TcCoe Idealize.SL.Sem
open Idealize.ShloMosaic.Pointwise

variable {F : FTy → Type} [FloatOps F]
variable (m : (ℓ : Loc nD τ sig) → Buf (Elt F) ℓ)

/-- The row of the whole array that is row `r` of the block of point `t`. -/
def row (t : Fin cfg0.N) (r : Fin 256) : Fin 16384 := ⟨256 * t.val + r.val, by have := t.isLt; have : cfg0.N = 64 := N_0; omega⟩

theorem index_0 : ∀ t : Fin cfg0.N, win0_0.index t 0 = t.val ∧ win0_0.index t 1 = 0 := by decide +kernel
theorem index_4 : ∀ t : Fin cfg0.N, win0_4.index t 0 = t.val ∧ win0_4.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = 0 := by decide +kernel

theorem iblk_0 (c : Dev nD) (t : Fin cfg0.N) (r : Fin 256) (e : Fin 64) :
    (iblk m c 0 t : Vec F S256x64 .f32) (ix2 r e) = V m c main_arg0 (ix2 (row t r) e : S16384x64.Idx) := by
  unfold iblk
  rw [View.read_apply]
  show V m c main_arg0 _ = V m c main_arg0 _
  congr 1
  funext a
  apply Fin.ext
  match a with
  | ⟨0, _⟩ => show win0_0.index t 0 * 256 + 1 * r.val = 256 * t.val + r.val; rw [(index_0 t).1]; omega
  | ⟨1, _⟩ => show win0_0.index t 1 * 64 + 1 * e.val = e.val; rw [(index_0 t).2]; omega

theorem iblk_4 (c : Dev nD) (t : Fin cfg0.N) (r : Fin 256) (k : Fin 51) :
    (iblk m c 4 t : Vec F S256x51 .i32) (ix2 r k) = V m c main_v14 (ix2 (row t r) k : S16384x51.Idx) := by
  unfold iblk
  rw [View.read_apply]
  show V m c main_v14 _ = V m c main_v14 _
  congr 1
  funext a
  apply Fin.ext
  match a with
  | ⟨0, _⟩ => show win0_4.index t 0 * 256 + 1 * r.val = 256 * t.val + r.val; rw [(index_4 t).1]; omega
  | ⟨1, _⟩ => show win0_4.index t 1 * 51 + 1 * k.val = k.val; rw [(index_4 t).2]; omega

theorem iblk_1 (c : Dev nD) (t : Fin cfg0.N) (e : Fin 64) (w : Fin 1000) :
    (iblk m c 1 t : Vec F S64x1000 .f32) (ix2 e w) = V m c main_v15 (ix2 e w : S64x1000.Idx) := by
  unfold iblk
  rw [View.read_apply]
  show V m c main_v15 _ = V m c main_v15 _
  congr 1
  funext a
  apply Fin.ext
  match a with
  | ⟨0, _⟩ => show win0_1.index t 0 * 64 + 1 * e.val = e.val; rw [(index_1 t).1]; omega
  | ⟨1, _⟩ => show win0_1.index t 1 * 1000 + 1 * w.val = w.val; rw [(index_1 t).2]; omega

theorem iblk_2 (c : Dev nD) (t : Fin cfg0.N) (z : Fin 1) (w : Fin 1000) :
    (iblk m c 2 t : Vec F S1x1000 .f32) (ix2 z w) = V m c main_v16 (ix2 z w : S1x1000.Idx) := by
  unfold iblk
  rw [View.read_apply]
  show V m c main_v16 _ = V m c main_v16 _
  congr 1
  funext a
  apply Fin.ext
  match a with
  | ⟨0, _⟩ => show win0_2.index t 0 * 1 + 1 * z.val = z.val; rw [(index_2 t).1]; omega
  | ⟨1, _⟩ => show win0_2.index t 1 * 1000 + 1 * w.val = w.val; rw [(index_2 t).2]; omega

theorem iblk_3 (c : Dev nD) (t : Fin cfg0.N) (z : Fin 1) (w : Fin 1000) :
    (iblk m c 3 t : Vec F S1x1000 .f32) (ix2 z w) = V m c main_v19 (ix2 z w : S1x1000.Idx) := by
  unfold iblk
  rw [View.read_apply]
  show V m c main_v19 _ = V m c main_v19 _
  congr 1
  funext a
  apply Fin.ext
  match a with
  | ⟨0, _⟩ => show win0_3.index t 0 * 1 + 1 * z.val = z.val; rw [(index_3 t).1]; omega
  | ⟨1, _⟩ => show win0_3.index t 1 * 1000 + 1 * w.val = w.val; rw [(index_3 t).2]; omega

/-- The buffers after the draw, before the operands of the call are laid out. -/
def drawn (c : Dev nD) : Valuation τ sig (Elt F) :=
  StableHlo.after (hostOps0 ++ (hostOps0_1 ++ (hostOps0_2 ++ hostOps0_3))) (fun b => m (c, b))

theorem V0_eq (c : Dev nD) : V0 m c = StableHlo.after hostOps0_4 (drawn m c) := by
  have e : List.flatten [hostOps0 (F := F), hostOps0_1, hostOps0_2, hostOps0_3, hostOps0_4]
      = (hostOps0 ++ (hostOps0_1 ++ (hostOps0_2 ++ hostOps0_3))) ++ hostOps0_4 := by
    simp only [List.flatten_cons, List.flatten_nil, List.append_nil, List.append_assoc]
  have h : ∀ (a b : List (HloOp τ sig (Elt F))) V, StableHlo.after (a ++ b) V = StableHlo.after b (StableHlo.after a V) := by
    intro a b
    induction a with
    | nil => intro V; rfl
    | cons op l ih => intro V; exact ih _
  unfold V0 drawn
  rw [e, h]

section Layout

variable (W : Valuation τ sig (Elt F))

theorem layout_words : StableHlo.after hostOps0_4 W (Proc.devRef .tc main_v14)
    = concatenate S16384x51 1 [⟨S16384x1, broadcastInDim S16384x1 ![0] bcast_S16384_S16384x1_0 (W (Proc.devRef .tc main_arg1))⟩,
        ⟨S16384x50, W (Proc.devRef .tc main_v12)⟩] concatenates_S16384x1_S16384x50_S16384x51_d1 := by
  unfold hostOps0_4
  after_results

theorem layout_weight : StableHlo.after hostOps0_4 W (Proc.devRef .tc main_v15)
    = transpose S64x1000 [1, 0] (W (Proc.devRef .tc main_arg2)) transposes_S1000x64_S64x1000_1_0 := by
  unfold hostOps0_4
  after_results

theorem layout_bias : StableHlo.after hostOps0_4 W (Proc.devRef .tc main_v16)
    = broadcastInDim S1x1000 ![1] bcast_S1000_S1x1000_1 (W (Proc.devRef .tc main_arg3)) := by
  unfold hostOps0_4
  after_results

theorem layout_noise : StableHlo.after hostOps0_4 W (Proc.devRef .tc main_v19)
    = broadcastInDim S1x1000 ![1] bcast_S1000_S1x1000_1 (mulf (broadcastInDim S1000 ![] bcast_S_S1000 (constant S_ .f32 0x42480000#32)) (W (Proc.devRef .tc main_arg4))) := by
  unfold hostOps0_4
  after_results

end Layout

end Cert.KernelIdeal.Block

end
-- ==== Proof.KTotal.lean ====
/- The kernel's accumulated loss over the extended reals: the sum over all rows of the terms of the row's words. -/
module

public import proofs.«01_k».proof.Proof.KHost

@[expose] public section

noncomputable section

namespace Cert.KernelIdeal.Block

open Cert.KernelIdeal Cert.KernelIdeal.Gen Cert.KernelIdeal.Value Idealize.ShloMosaic Idealize.ShloMosaic.TcCoe Idealize.SL.Sem
open Idealize.ShloMosaic.Pointwise

variable (m : (ℓ : Loc nD τ sig) → Buf (Elt Ideal) ℓ)

/-- What the call of point `t` adds. -/
abbrev pointAt (c : Dev nD) (t : Fin cfg0.N) : EReal :=
  point (F := Ideal) (iblk m c 0 t) (iblk m c 1 t) (iblk m c 2 t) (iblk m c 3 t) (iblk m c 4 t)

theorem running_apply (c : Dev nD) : (n : ℕ) → (h : n < cfg0.N) →
    running m c n h (ix2 0 0) = ∑ t : Fin (n + 1), pointAt m c ⟨t.val, Nat.lt_of_lt_of_le t.isLt h⟩
  | 0, h => by
    show (Ideal.ofBits .f32 0x00000000#32 : EReal) + pointAt m c ⟨0, h⟩ = _
    simp
  | n + 1, h => by
    rw [Fin.sum_univ_castSucc]
    show running m c n _ (ix2 0 0) + pointAt m c ⟨n + 1, h⟩ = _
    rw [running_apply c n]
    rfl

variable (c : Dev nD) (x : Fin 16384 → Fin 64 → EReal) (wt : Fin 1000 → Fin 64 → EReal) (b nz : Fin 1000 → EReal)
  (wd : Fin 16384 → Fin 51 → Fin 1000)

/-- What the call of point `t` adds is the loss of the block's rows. -/
theorem pointAt_eq (hx : ∀ n e, V m c main_arg0 (ix2 n e : S16384x64.Idx) = x n e) (hd : ∀ n k, V m c main_v14 (ix2 n k : S16384x51.Idx) = BitVec.ofNat 32 (wd n k).val)
    (hwt : ∀ e w, V m c main_v15 (ix2 e w : S64x1000.Idx) = wt w e) (hb : ∀ z w, V m c main_v16 (ix2 z w : S1x1000.Idx) = b w)
    (hn : ∀ z w, V m c main_v19 (ix2 z w : S1x1000.Idx) = Terms.weight nz w) (t : Fin cfg0.N) :
    pointAt m c t = ∑ r : Fin 256, Terms.rowLoss x wt b nz wd (row t r) := by
  unfold pointAt point
  rw [total_apply]
  refine Finset.sum_congr rfl fun r _ => ?_
  rw [chain_apply _ _ _ r (fun k => wd (row t r) k) (fun k => ?_) 50 (by decide)]
  · have hl : ∀ w, k0_pay3 (F := Ideal) (iblk m c 0 t) (iblk m c 1 t) (iblk m c 2 t) (ix2 r w) = Terms.logit x wt b (row t r) w := fun w => by
      rw [logits_apply, iblk_2, hb]
      refine congrArg (· + b w) (Finset.sum_congr rfl fun e _ => ?_)
      rw [iblk_0, iblk_1, hwt, hx]
    have hk : ∀ w, k0_pay5 (F := Ideal) (iblk m c 3 t) (ix2 r w) = Terms.weight nz w := fun w => by rw [weights_apply, iblk_3, hn]
    simp only [hl, hk]
    rfl
  · unfold k0_pay4
    rw [shapeCast_self, iblk_4, hd]

/-- The accumulator at the end is the loss of all the rows. -/
theorem result_apply (hx : ∀ n e, V m c main_arg0 (ix2 n e : S16384x64.Idx) = x n e) (hd : ∀ n k, V m c main_v14 (ix2 n k : S16384x51.Idx) = BitVec.ofNat 32 (wd n k).val)
    (hwt : ∀ e w, V m c main_v15 (ix2 e w : S64x1000.Idx) = wt w e) (hb : ∀ z w, V m c main_v16 (ix2 z w : S1x1000.Idx) = b w)
    (hn : ∀ z w, V m c main_v19 (ix2 z w : S1x1000.Idx) = Terms.weight nz w) :
    result m c (ix2 0 0 : S1x1.Idx) = ∑ n : Fin 16384, Terms.rowLoss x wt b nz wd n := by
  refine (running_apply m c 63 last.isLt).trans ?_
  simp only [pointAt_eq m c x wt b nz wd hx hd hwt hb hn]
  rw [← Fintype.sum_prod_type']
  refine Fintype.sum_equiv (finProdFinEquiv (m := 64) (n := 256)) _ _ fun p => ?_
  refine congrArg (Terms.rowLoss x wt b nz wd) (Fin.ext ?_)
  show 256 * p.1.val + p.2.val = p.2.val + 256 * p.1.val
  omega

end Cert.KernelIdeal.Block

end
-- ==== Proof.RefLine.lean ====
/- The reference program as a straight line of operations, and what running it leaves in its buffers. -/
module

public import proofs.«01_k».proof.Proof.Gen.ReferenceIdeal
public import Idealize.ShloMosaic.Lib.StableHlo.Run
public import Idealize.ShloMosaic.Lib.Pipeline.Regions
public import Idealize.ShloMosaic.Adequacy
public import Idealize.ShloMosaic.Init

@[expose] public section

set_option maxRecDepth 8000

noncomputable section

namespace Cert.ReferenceIdeal.Line

open Idealize.ShloMosaic Idealize.ShloMosaic.TcCoe
open Idealize.SL.Sem Cert.ReferenceIdeal.Gen

variable {F : FTy → Type} [FloatOps F]

/-- Operations of the reference, in order: the key of the draw and the logarithm of the noise weights. -/
abbrev opsKey : List (HloOp τ sig (Elt F)) :=
  [ StableHlo.nullary main_c (constantI S_ 32 42#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.unary main_arg4 main_v7 (Host.log : (⟨S1000, .f32⟩ : BufTy).Contents (Elt F) → (⟨S1000, .f32⟩ : BufTy).Contents (Elt F)) ]

set_option maxHeartbeats 40000000 in
/-- Operations of the reference, in order: the Gumbel noise of the draw. -/
abbrev opsGumbel : List (HloOp τ sig (Elt F)) :=
  ( StableHlo.TRef.nullary (.of main_call0_cst : StableHlo.TRef sig ⟨S_, .f32⟩) (constant S_ .f32 0x3F800000#32)
  :: StableHlo.TRef.nullary (.of main_call0_cst_0 : StableHlo.TRef sig ⟨S_, .f32⟩) (constant S_ .f32 0x00800000#32)
  :: StableHlo.TRef.unary (.of main_call0_cst : StableHlo.TRef sig ⟨S_, .f32⟩) (.of main_call0_call0_v0 : StableHlo.TRef sig ⟨S_, .f32⟩) id
  :: StableHlo.TRef.unary (.of main_call0_cst_0 : StableHlo.TRef sig ⟨S_, .f32⟩) (.of main_call0_call0_v1 : StableHlo.TRef sig ⟨S1x1x1, .f32⟩) (broadcastInDim S1x1x1 ![] bcast_S_S1x1x1)
  :: StableHlo.TRef.unary (.of main_call0_call0_v0 : StableHlo.TRef sig ⟨S_, .f32⟩) (.of main_call0_call0_v2 : StableHlo.TRef sig ⟨S1x1x1, .f32⟩) (broadcastInDim S1x1x1 ![] bcast_S_S1x1x1)
  :: StableHlo.TRef.unary (.of main_v6 : StableHlo.TRef sig ⟨S2, .i32⟩) (.of main_call0_call0_v3 : StableHlo.TRef sig ⟨S1, .i32⟩) (extractStridedSlice S1 ![0] · slices_S2_S1_0)
  :: StableHlo.TRef.reshape (.of main_call0_call0_v3 : StableHlo.TRef sig ⟨S1, .i32⟩) (.of main_call0_call0_v4 : StableHlo.TRef sig ⟨S_, .i32⟩) (rfl : (.i32 : EltTy) = .i32) shapeCasts_S1_S_
  :: StableHlo.TRef.unary (.of main_v6 : StableHlo.TRef sig ⟨S2, .i32⟩) (.of main_call0_call0_v5 : StableHlo.TRef sig ⟨S1, .i32⟩) (extractStridedSlice S1 ![1] · slices_S2_S1_1)
  :: StableHlo.TRef.reshape (.of main_call0_call0_v5 : StableHlo.TRef sig ⟨S1, .i32⟩) (.of main_call0_call0_v6 : StableHlo.TRef sig ⟨S_, .i32⟩) (rfl : (.i32 : EltTy) = .i32) shapeCasts_S1_S_
  :: StableHlo.TRef.nullary (.of main_call0_call0_v7 : StableHlo.TRef sig ⟨S16384x50x1000, .i64⟩) (iotaInDim S16384x50x1000 64 0)
  :: StableHlo.TRef.nullary (.of main_call0_call0_v8 : StableHlo.TRef sig ⟨S16384x50x1000, .i64⟩) (iotaInDim S16384x50x1000 64 1)
  :: StableHlo.TRef.nullary (.of main_call0_call0_v9 : StableHlo.TRef sig ⟨S16384x50x1000, .i64⟩) (iotaInDim S16384x50x1000 64 2)
  :: StableHlo.TRef.nullary (.of main_call0_call0_c : StableHlo.TRef sig ⟨S_, .i64⟩) (constantI S_ 64 50000#64)
  :: StableHlo.TRef.unary (.of main_call0_call0_c : StableHlo.TRef sig ⟨S_, .i64⟩) (.of main_call0_call0_v10 : StableHlo.TRef sig ⟨S16384x50x1000, .i64⟩) (broadcastInDim S16384x50x1000 ![] bcast_S_S16384x50x1000)
  :: StableHlo.TRef.binary (.of main_call0_call0_v10 : StableHlo.TRef sig ⟨S16384x50x1000, .i64⟩) (.of main_call0_call0_v7 : StableHlo.TRef sig ⟨S16384x50x1000, .i64⟩) (.of main_call0_call0_v11 : StableHlo.TRef sig ⟨S16384x50x1000, .i64⟩) muli
  :: StableHlo.TRef.nullary (.of main_call0_call0_c_0 : StableHlo.TRef sig ⟨S_, .i64⟩) (constantI S_ 64 1000#64)
  :: StableHlo.TRef.unary (.of main_call0_call0_c_0 : StableHlo.TRef sig ⟨S_, .i64⟩) (.of main_call0_call0_v12 : StableHlo.TRef sig ⟨S16384x50x1000, .i64⟩) (broadcastInDim S16384x50x1000 ![] bcast_S_S16384x50x1000)
  :: StableHlo.TRef.binary (.of main_call0_call0_v12 : StableHlo.TRef sig ⟨S16384x50x1000, .i64⟩) (.of main_call0_call0_v8 : StableHlo.TRef sig ⟨S16384x50x1000, .i64⟩) (.of main_call0_call0_v13 : StableHlo.TRef sig ⟨S16384x50x1000, .i64⟩) muli
  :: StableHlo.TRef.nullary (.of main_call0_call0_c_1 : StableHlo.TRef sig ⟨S_, .i64⟩) (constantI S_ 64 1#64)
  :: StableHlo.TRef.unary (.of main_call0_call0_c_1 : StableHlo.TRef sig ⟨S_, .i64⟩) (.of main_call0_call0_v14 : StableHlo.TRef sig ⟨S16384x50x1000, .i64⟩) (broadcastInDim S16384x50x1000 ![] bcast_S_S16384x50x1000)
  :: StableHlo.TRef.binary (.of main_call0_call0_v14 : StableHlo.TRef sig ⟨S16384x50x1000, .i64⟩) (.of main_call0_call0_v9 : StableHlo.TRef sig ⟨S16384x50x1000, .i64⟩) (.of main_call0_call0_v15 : StableHlo.TRef sig ⟨S16384x50x1000, .i64⟩) muli
  :: StableHlo.TRef.binary (.of main_call0_call0_v11 : StableHlo.TRef sig ⟨S16384x50x1000, .i64⟩) (.of main_call0_call0_v13 : StableHlo.TRef sig ⟨S16384x50x1000, .i64⟩) (.of main_call0_call0_v16 : StableHlo.TRef sig ⟨S16384x50x1000, .i64⟩) addi
  :: StableHlo.TRef.binary (.of main_call0_call0_v16 : StableHlo.TRef sig ⟨S16384x50x1000, .i64⟩) (.of main_call0_call0_v15 : StableHlo.TRef sig ⟨S16384x50x1000, .i64⟩) (.of main_call0_call0_v17 : StableHlo.TRef sig ⟨S16384x50x1000, .i64⟩) addi
  :: StableHlo.TRef.nullary (.of main_call0_call0_c_2 : StableHlo.TRef sig ⟨S_, .i64⟩) (constantI S_ 64 32#64)
  :: StableHlo.TRef.unary (.of main_call0_call0_c_2 : StableHlo.TRef sig ⟨S_, .i64⟩) (.of main_call0_call0_v18 : StableHlo.TRef sig ⟨S16384x50x1000, .i64⟩) (broadcastInDim S16384x50x1000 ![] bcast_S_S16384x50x1000)
  :: StableHlo.TRef.binary (.of main_call0_call0_v17 : StableHlo.TRef sig ⟨S16384x50x1000, .i64⟩) (.of main_call0_call0_v18 : StableHlo.TRef sig ⟨S16384x50x1000, .i64⟩) (.of main_call0_call0_v19 : StableHlo.TRef sig ⟨S16384x50x1000, .i64⟩) Host.shrui
  :: StableHlo.TRef.unary (.of main_call0_call0_v17 : StableHlo.TRef sig ⟨S16384x50x1000, .i64⟩) (.of main_call0_call0_v20 : StableHlo.TRef sig ⟨S16384x50x1000, .i32⟩) (trunci 32 · natLt_32_64)
  :: StableHlo.TRef.unary (.of main_call0_call0_v19 : StableHlo.TRef sig ⟨S16384x50x1000, .i64⟩) (.of main_call0_call0_v21 : StableHlo.TRef sig ⟨S16384x50x1000, .i32⟩) (trunci 32 · natLt_32_64)
  :: StableHlo.TRef.binary (.of main_call0_call0_v4 : StableHlo.TRef sig ⟨S_, .i32⟩) (.of main_call0_call0_v6 : StableHlo.TRef sig ⟨S_, .i32⟩) (.of main_call0_call0_call0_v0 : StableHlo.TRef sig ⟨S_, .i32⟩) xori
  :: StableHlo.TRef.nullary (.of main_call0_call0_call0_c : StableHlo.TRef sig ⟨S_, .i32⟩) (constantI S_ 32 466688986#32)
  :: StableHlo.TRef.binary (.of main_call0_call0_call0_v0 : StableHlo.TRef sig ⟨S_, .i32⟩) (.of main_call0_call0_call0_c : StableHlo.TRef sig ⟨S_, .i32⟩) (.of main_call0_call0_call0_v1 : StableHlo.TRef sig ⟨S_, .i32⟩) xori
  :: StableHlo.TRef.unary (.of main_call0_call0_v4 : StableHlo.TRef sig ⟨S_, .i32⟩) (.of main_call0_call0_call0_v2 : StableHlo.TRef sig ⟨S16384x50x1000, .i32⟩) (broadcastInDim S16384x50x1000 ![] bcast_S_S16384x50x1000)
  :: StableHlo.TRef.binary (.of main_call0_call0_v21 : StableHlo.TRef sig ⟨S16384x50x1000, .i32⟩) (.of main_call0_call0_call0_v2 : StableHlo.TRef sig ⟨S16384x50x1000, .i32⟩) (.of main_call0_call0_call0_v3 : StableHlo.TRef sig ⟨S16384x50x1000, .i32⟩) addi
  :: StableHlo.TRef.unary (.of main_call0_call0_v6 : StableHlo.TRef sig ⟨S_, .i32⟩) (.of main_call0_call0_call0_v4 : StableHlo.TRef sig ⟨S16384x50x1000, .i32⟩) (broadcastInDim S16384x50x1000 ![] bcast_S_S16384x50x1000)
  :: StableHlo.TRef.binary (.of main_call0_call0_v20 : StableHlo.TRef sig ⟨S16384x50x1000, .i32⟩) (.of main_call0_call0_call0_v4 : StableHlo.TRef sig ⟨S16384x50x1000, .i32⟩) (.of main_call0_call0_call0_v5 : StableHlo.TRef sig ⟨S16384x50x1000, .i32⟩) addi
  :: StableHlo.TRef.binary (.of main_call0_call0_call0_v3 : StableHlo.TRef sig ⟨S16384x50x1000, .i32⟩) (.of main_call0_call0_call0_v5 : StableHlo.TRef sig ⟨S16384x50x1000, .i32⟩) (.of main_call0_call0_call0_v6 : StableHlo.TRef sig ⟨S16384x50x1000, .i32⟩) addi
  :: StableHlo.TRef.nullary (.of main_call0_call0_call0_c_0 : StableHlo.TRef sig ⟨S_, .i32⟩) (constantI S_ 32 13#32)
  :: StableHlo.TRef.unary (.of main_call0_call0_call0_c_0 : StableHlo.TRef sig ⟨S_, .i32⟩) (.of main_call0_call0_call0_v7 : StableHlo.TRef sig ⟨S16384x50x1000, .i32⟩) (broadcastInDim S16384x50x1000 ![] bcast_S_S16384x50x1000)
  :: StableHlo.TRef.binary (.of main_call0_call0_call0_v5 : StableHlo.TRef sig ⟨S16384x50x1000, .i32⟩) (.of main_call0_call0_call0_v7 : StableHlo.TRef sig ⟨S16384x50x1000, .i32⟩) (.of main_call0_call0_call0_v8 : StableHlo.TRef sig ⟨S16384x50x1000, .i32⟩) Host.shli
  :: StableHlo.TRef.nullary (.of main_call0_call0_call0_c_1 : StableHlo.TRef sig ⟨S_, .i32⟩) (constantI S_ 32 19#32)
  :: StableHlo.TRef.unary (.of main_call0_call0_call0_c_1 : StableHlo.TRef sig ⟨S_, .i32⟩) (.of main_call0_call0_call0_v9 : StableHlo.TRef sig ⟨S16384x50x1000, .i32⟩) (broadcastInDim S16384x50x1000 ![] bcast_S_S16384x50x1000)
  :: StableHlo.TRef.binary (.of main_call0_call0_call0_v5 : StableHlo.TRef sig ⟨S16384x50x1000, .i32⟩) (.of main_call0_call0_call0_v9 : StableHlo.TRef sig ⟨S16384x50x1000, .i32⟩) (.of main_call0_call0_call0_v10 : StableHlo.TRef sig ⟨S16384x50x1000, .i32⟩) Host.shrui
  :: StableHlo.TRef.binary (.of main_call0_call0_call0_v8 : StableHlo.TRef sig ⟨S16384x50x1000, .i32⟩) (.of main_call0_call0_call0_v10 : StableHlo.TRef sig ⟨S16384x50x1000, .i32⟩) (.of main_call0_call0_call0_v11 : StableHlo.TRef sig ⟨S16384x50x1000, .i32⟩) ori
  :: StableHlo.TRef.binary (.of main_call0_call0_call0_v6 : StableHlo.TRef sig ⟨S16384x50x1000, .i32⟩) (.of main_call0_call0_call0_v11 : StableHlo.TRef sig ⟨S16384x50x1000, .i32⟩) (.of main_call0_call0_call0_v12 : StableHlo.TRef sig ⟨S16384x50x1000, .i32⟩) xori
  :: StableHlo.TRef.binary (.of main_call0_call0_call0_v6 : StableHlo.TRef sig ⟨S16384x50x1000, .i32⟩) (.of main_call0_call0_call0_v12 : StableHlo.TRef sig ⟨S16384x50x1000, .i32⟩) (.of main_call0_call0_call0_v13 : StableHlo.TRef sig ⟨S16384x50x1000, .i32⟩) addi
  :: StableHlo.TRef.nullary (.of main_call0_call0_call0_c_2 : StableHlo.TRef sig ⟨S_, .i32⟩) (constantI S_ 32 15#32)
  :: StableHlo.TRef.unary (.of main_call0_call0_call0_c_2 : StableHlo.TRef sig ⟨S_, .i32⟩) (.of main_call0_call0_call0_v14 : StableHlo.TRef sig ⟨S16384x50x1000, .i32⟩) (broadcastInDim S16384x50x1000 ![] bcast_S_S16384x50x1000)
  :: StableHlo.TRef.binary (.of main_call0_call0_call0_v12 : StableHlo.TRef sig ⟨S16384x50x1000, .i32⟩) (.of main_call0_call0_call0_v14 : StableHlo.TRef sig ⟨S16384x50x1000, .i32⟩) (.of main_call0_call0_call0_v15 : StableHlo.TRef sig ⟨S16384x50x1000, .i32⟩) Host.shli
  :: StableHlo.TRef.nullary (.of main_call0_call0_call0_c_3 : StableHlo.TRef sig ⟨S_, .i32⟩) (constantI S_ 32 17#32)
  :: StableHlo.TRef.unary (.of main_call0_call0_call0_c_3 : StableHlo.TRef sig ⟨S_, .i32⟩) (.of main_call0_call0_call0_v16 : StableHlo.TRef sig ⟨S16384x50x1000, .i32⟩) (broadcastInDim S16384x50x1000 ![] bcast_S_S16384x50x1000)
  :: StableHlo.TRef.binary (.of main_call0_call0_call0_v12 : StableHlo.TRef sig ⟨S16384x50x1000, .i32⟩) (.of main_call0_call0_call0_v16 : StableHlo.TRef sig ⟨S16384x50x1000, .i32⟩) (.of main_call0_call0_call0_v17 : StableHlo.TRef sig ⟨S16384x50x1000, .i32⟩) Host.shrui
  :: StableHlo.TRef.binary (.of main_call0_call0_call0_v15 : StableHlo.TRef sig ⟨S16384x50x1000, .i32⟩) (.of main_call0_call0_call0_v17 : StableHlo.TRef sig ⟨S16384x50x1000, .i32⟩) (.of main_call0_call0_call0_v18 : StableHlo.TRef sig ⟨S16384x50x1000, .i32⟩) ori
  :: StableHlo.TRef.binary (.of main_call0_call0_call0_v13 : StableHlo.TRef sig ⟨S16384x50x1000, .i32⟩) (.of main_call0_call0_call0_v18 : StableHlo.TRef sig ⟨S16384x50x1000, .i32⟩) (.of main_call0_call0_call0_v19 : StableHlo.TRef sig ⟨S16384x50x1000, .i32⟩) xori
  :: StableHlo.TRef.binary (.of main_call0_call0_call0_v13 : StableHlo.TRef sig ⟨S16384x50x1000, .i32⟩) (.of main_call0_call0_call0_v19 : StableHlo.TRef sig ⟨S16384x50x1000, .i32⟩) (.of main_call0_call0_call0_v20 : StableHlo.TRef sig ⟨S16384x50x1000, .i32⟩) addi
  :: StableHlo.TRef.nullary (.of main_call0_call0_call0_c_4 : StableHlo.TRef sig ⟨S_, .i32⟩) (constantI S_ 32 26#32)
  :: StableHlo.TRef.unary (.of main_call0_call0_call0_c_4 : StableHlo.TRef sig ⟨S_, .i32⟩) (.of main_call0_call0_call0_v21 : StableHlo.TRef sig ⟨S16384x50x1000, .i32⟩) (broadcastInDim S16384x50x1000 ![] bcast_S_S16384x50x1000)
  :: StableHlo.TRef.binary (.of main_call0_call0_call0_v19 : StableHlo.TRef sig ⟨S16384x50x1000, .i32⟩) (.of main_call0_call0_call0_v21 : StableHlo.TRef sig ⟨S16384x50x1000, .i32⟩) (.of main_call0_call0_call0_v22 : StableHlo.TRef sig ⟨S16384x50x1000, .i32⟩) Host.shli
  :: StableHlo.TRef.nullary (.of main_call0_call0_call0_c_5 : StableHlo.TRef sig ⟨S_, .i32⟩) (constantI S_ 32 6#32)
  :: StableHlo.TRef.unary (.of main_call0_call0_call0_c_5 : StableHlo.TRef sig ⟨S_, .i32⟩) (.of main_call0_call0_call0_v23 : StableHlo.TRef sig ⟨S16384x50x1000, .i32⟩) (broadcastInDim S16384x50x1000 ![] bcast_S_S16384x50x1000)
  :: StableHlo.TRef.binary (.of main_call0_call0_call0_v19 : StableHlo.TRef sig ⟨S16384x50x1000, .i32⟩) (.of main_call0_call0_call0_v23 : StableHlo.TRef sig ⟨S16384x50x1000, .i32⟩) (.of main_call0_call0_call0_v24 : StableHlo.TRef sig ⟨S16384x50x1000, .i32⟩) Host.shrui
  :: StableHlo.TRef.binary (.of main_call0_call0_call0_v22 : StableHlo.TRef sig ⟨S16384x50x1000, .i32⟩) (.of main_call0_call0_call0_v24 : StableHlo.TRef sig ⟨S16384x50x1000, .i32⟩) (.of main_call0_call0_call0_v25 : StableHlo.TRef sig ⟨S16384x50x1000, .i32⟩) ori
  :: StableHlo.TRef.binary (.of main_call0_call0_call0_v20 : StableHlo.TRef sig ⟨S16384x50x1000, .i32⟩) (.of main_call0_call0_call0_v25 : StableHlo.TRef sig ⟨S16384x50x1000, .i32⟩) (.of main_call0_call0_call0_v26 : StableHlo.TRef sig ⟨S16384x50x1000, .i32⟩) xori
  :: StableHlo.TRef.binary (.of main_call0_call0_call0_v20 : StableHlo.TRef sig ⟨S16384x50x1000, .i32⟩) (.of main_call0_call0_call0_v26 : StableHlo.TRef sig ⟨S16384x50x1000, .i32⟩) (.of main_call0_call0_call0_v27 : StableHlo.TRef sig ⟨S16384x50x1000, .i32⟩) addi
  :: StableHlo.TRef.nullary (.of main_call0_call0_call0_c_6 : StableHlo.TRef sig ⟨S_, .i32⟩) (constantI S_ 32 6#32)
  :: StableHlo.TRef.unary (.of main_call0_call0_call0_c_6 : StableHlo.TRef sig ⟨S_, .i32⟩) (.of main_call0_call0_call0_v28 : StableHlo.TRef sig ⟨S16384x50x1000, .i32⟩) (broadcastInDim S16384x50x1000 ![] bcast_S_S16384x50x1000)
  :: StableHlo.TRef.binary (.of main_call0_call0_call0_v26 : StableHlo.TRef sig ⟨S16384x50x1000, .i32⟩) (.of main_call0_call0_call0_v28 : StableHlo.TRef sig ⟨S16384x50x1000, .i32⟩) (.of main_call0_call0_call0_v29 : StableHlo.TRef sig ⟨S16384x50x1000, .i32⟩) Host.shli
  :: StableHlo.TRef.nullary (.of main_call0_call0_call0_c_7 : StableHlo.TRef sig ⟨S_, .i32⟩) (constantI S_ 32 26#32)
  :: StableHlo.TRef.unary (.of main_call0_call0_call0_c_7 : StableHlo.TRef sig ⟨S_, .i32⟩) (.of main_call0_call0_call0_v30 : StableHlo.TRef sig ⟨S16384x50x1000, .i32⟩) (broadcastInDim S16384x50x1000 ![] bcast_S_S16384x50x1000)
  :: StableHlo.TRef.binary (.of main_call0_call0_call0_v26 : StableHlo.TRef sig ⟨S16384x50x1000, .i32⟩) (.of main_call0_call0_call0_v30 : StableHlo.TRef sig ⟨S16384x50x1000, .i32⟩) (.of main_call0_call0_call0_v31 : StableHlo.TRef sig ⟨S16384x50x1000, .i32⟩) Host.shrui
  :: StableHlo.TRef.binary (.of main_call0_call0_call0_v29 : StableHlo.TRef sig ⟨S16384x50x1000, .i32⟩) (.of main_call0_call0_call0_v31 : StableHlo.TRef sig ⟨S16384x50x1000, .i32⟩) (.of main_call0_call0_call0_v32 : StableHlo.TRef sig ⟨S16384x50x1000, .i32⟩) ori
  :: StableHlo.TRef.binary (.of main_call0_call0_call0_v27 : StableHlo.TRef sig ⟨S16384x50x1000, .i32⟩) (.of main_call0_call0_call0_v32 : StableHlo.TRef sig ⟨S16384x50x1000, .i32⟩) (.of main_call0_call0_call0_v33 : StableHlo.TRef sig ⟨S16384x50x1000, .i32⟩) xori
  :: StableHlo.TRef.unary (.of main_call0_call0_v6 : StableHlo.TRef sig ⟨S_, .i32⟩) (.of main_call0_call0_call0_v34 : StableHlo.TRef sig ⟨S16384x50x1000, .i32⟩) (broadcastInDim S16384x50x1000 ![] bcast_S_S16384x50x1000)
  :: StableHlo.TRef.binary (.of main_call0_call0_call0_v27 : StableHlo.TRef sig ⟨S16384x50x1000, .i32⟩) (.of main_call0_call0_call0_v34 : StableHlo.TRef sig ⟨S16384x50x1000, .i32⟩) (.of main_call0_call0_call0_v35 : StableHlo.TRef sig ⟨S16384x50x1000, .i32⟩) addi
  :: StableHlo.TRef.unary (.of main_call0_call0_call0_v1 : StableHlo.TRef sig ⟨S_, .i32⟩) (.of main_call0_call0_call0_v36 : StableHlo.TRef sig ⟨S16384x50x1000, .i32⟩) (broadcastInDim S16384x50x1000 ![] bcast_S_S16384x50x1000)
  :: StableHlo.TRef.binary (.of main_call0_call0_call0_v33 : StableHlo.TRef sig ⟨S16384x50x1000, .i32⟩) (.of main_call0_call0_call0_v36 : StableHlo.TRef sig ⟨S16384x50x1000, .i32⟩) (.of main_call0_call0_call0_v37 : StableHlo.TRef sig ⟨S16384x50x1000, .i32⟩) addi
  :: StableHlo.TRef.nullary (.of main_call0_call0_call0_c_8 : StableHlo.TRef sig ⟨S_, .i32⟩) (constantI S_ 32 1#32)
  :: StableHlo.TRef.unary (.of main_call0_call0_call0_c_8 : StableHlo.TRef sig ⟨S_, .i32⟩) (.of main_call0_call0_call0_v38 : StableHlo.TRef sig ⟨S16384x50x1000, .i32⟩) (broadcastInDim S16384x50x1000 ![] bcast_S_S16384x50x1000)
  :: StableHlo.TRef.binary (.of main_call0_call0_call0_v37 : StableHlo.TRef sig ⟨S16384x50x1000, .i32⟩) (.of main_call0_call0_call0_v38 : StableHlo.TRef sig ⟨S16384x50x1000, .i32⟩) (.of main_call0_call0_call0_v39 : StableHlo.TRef sig ⟨S16384x50x1000, .i32⟩) addi
  :: StableHlo.TRef.binary (.of main_call0_call0_call0_v35 : StableHlo.TRef sig ⟨S16384x50x1000, .i32⟩) (.of main_call0_call0_call0_v39 : StableHlo.TRef sig ⟨S16384x50x1000, .i32⟩) (.of main_call0_call0_call0_v40 : StableHlo.TRef sig ⟨S16384x50x1000, .i32⟩) addi
  :: StableHlo.TRef.nullary (.of main_call0_call0_call0_c_9 : StableHlo.TRef sig ⟨S_, .i32⟩) (constantI S_ 32 17#32)
  :: StableHlo.TRef.unary (.of main_call0_call0_call0_c_9 : StableHlo.TRef sig ⟨S_, .i32⟩) (.of main_call0_call0_call0_v41 : StableHlo.TRef sig ⟨S16384x50x1000, .i32⟩) (broadcastInDim S16384x50x1000 ![] bcast_S_S16384x50x1000)
  :: StableHlo.TRef.binary (.of main_call0_call0_call0_v39 : StableHlo.TRef sig ⟨S16384x50x1000, .i32⟩) (.of main_call0_call0_call0_v41 : StableHlo.TRef sig ⟨S16384x50x1000, .i32⟩) (.of main_call0_call0_call0_v42 : StableHlo.TRef sig ⟨S16384x50x1000, .i32⟩) Host.shli
  :: StableHlo.TRef.nullary (.of main_call0_call0_call0_c_10 : StableHlo.TRef sig ⟨S_, .i32⟩) (constantI S_ 32 15#32)
  :: StableHlo.TRef.unary (.of main_call0_call0_call0_c_10 : StableHlo.TRef sig ⟨S_, .i32⟩) (.of main_call0_call0_call0_v43 : StableHlo.TRef sig ⟨S16384x50x1000, .i32⟩) (broadcastInDim S16384x50x1000 ![] bcast_S_S16384x50x1000)
  :: StableHlo.TRef.binary (.of main_call0_call0_call0_v39 : StableHlo.TRef sig ⟨S16384x50x1000, .i32⟩) (.of main_call0_call0_call0_v43 : StableHlo.TRef sig ⟨S16384x50x1000, .i32⟩) (.of main_call0_call0_call0_v44 : StableHlo.TRef sig ⟨S16384x50x1000, .i32⟩) Host.shrui
  :: StableHlo.TRef.binary (.of main_call0_call0_call0_v42 : StableHlo.TRef sig ⟨S16384x50x1000, .i32⟩) (.of main_call0_call0_call0_v44 : StableHlo.TRef sig ⟨S16384x50x1000, .i32⟩) (.of main_call0_call0_call0_v45 : StableHlo.TRef sig ⟨S16384x50x1000, .i32⟩) ori
  :: StableHlo.TRef.binary (.of main_call0_call0_call0_v40 : StableHlo.TRef sig ⟨S16384x50x1000, .i32⟩) (.of main_call0_call0_call0_v45 : StableHlo.TRef sig ⟨S16384x50x1000, .i32⟩) (.of main_call0_call0_call0_v46 : StableHlo.TRef sig ⟨S16384x50x1000, .i32⟩) xori
  :: StableHlo.TRef.binary (.of main_call0_call0_call0_v40 : StableHlo.TRef sig ⟨S16384x50x1000, .i32⟩) (.of main_call0_call0_call0_v46 : StableHlo.TRef sig ⟨S16384x50x1000, .i32⟩) (.of main_call0_call0_call0_v47 : StableHlo.TRef sig ⟨S16384x50x1000, .i32⟩) addi
  :: StableHlo.TRef.nullary (.of main_call0_call0_call0_c_11 : StableHlo.TRef sig ⟨S_, .i32⟩) (constantI S_ 32 29#32)
  :: StableHlo.TRef.unary (.of main_call0_call0_call0_c_11 : StableHlo.TRef sig ⟨S_, .i32⟩) (.of main_call0_call0_call0_v48 : StableHlo.TRef sig ⟨S16384x50x1000, .i32⟩) (broadcastInDim S16384x50x1000 ![] bcast_S_S16384x50x1000)
  :: StableHlo.TRef.binary (.of main_call0_call0_call0_v46 : StableHlo.TRef sig ⟨S16384x50x1000, .i32⟩) (.of main_call0_call0_call0_v48 : StableHlo.TRef sig ⟨S16384x50x1000, .i32⟩) (.of main_call0_call0_call0_v49 : StableHlo.TRef sig ⟨S16384x50x1000, .i32⟩) Host.shli
  :: StableHlo.TRef.nullary (.of main_call0_call0_call0_c_12 : StableHlo.TRef sig ⟨S_, .i32⟩) (constantI S_ 32 3#32)
  :: StableHlo.TRef.unary (.of main_call0_call0_call0_c_12 : StableHlo.TRef sig ⟨S_, .i32⟩) (.of main_call0_call0_call0_v50 : StableHlo.TRef sig ⟨S16384x50x1000, .i32⟩) (broadcastInDim S16384x50x1000 ![] bcast_S_S16384x50x1000)
  :: StableHlo.TRef.binary (.of main_call0_call0_call0_v46 : StableHlo.TRef sig ⟨S16384x50x1000, .i32⟩) (.of main_call0_call0_call0_v50 : StableHlo.TRef sig ⟨S16384x50x1000, .i32⟩) (.of main_call0_call0_call0_v51 : StableHlo.TRef sig ⟨S16384x50x1000, .i32⟩) Host.shrui
  :: StableHlo.TRef.binary (.of main_call0_call0_call0_v49 : StableHlo.TRef sig ⟨S16384x50x1000, .i32⟩) (.of main_call0_call0_call0_v51 : StableHlo.TRef sig ⟨S16384x50x1000, .i32⟩) (.of main_call0_call0_call0_v52 : StableHlo.TRef sig ⟨S16384x50x1000, .i32⟩) ori
  :: StableHlo.TRef.binary (.of main_call0_call0_call0_v47 : StableHlo.TRef sig ⟨S16384x50x1000, .i32⟩) (.of main_call0_call0_call0_v52 : StableHlo.TRef sig ⟨S16384x50x1000, .i32⟩) (.of main_call0_call0_call0_v53 : StableHlo.TRef sig ⟨S16384x50x1000, .i32⟩) xori
  :: StableHlo.TRef.binary (.of main_call0_call0_call0_v47 : StableHlo.TRef sig ⟨S16384x50x1000, .i32⟩) (.of main_call0_call0_call0_v53 : StableHlo.TRef sig ⟨S16384x50x1000, .i32⟩) (.of main_call0_call0_call0_v54 : StableHlo.TRef sig ⟨S16384x50x1000, .i32⟩) addi
  :: StableHlo.TRef.nullary (.of main_call0_call0_call0_c_13 : StableHlo.TRef sig ⟨S_, .i32⟩) (constantI S_ 32 16#32)
  :: StableHlo.TRef.unary (.of main_call0_call0_call0_c_13 : StableHlo.TRef sig ⟨S_, .i32⟩) (.of main_call0_call0_call0_v55 : StableHlo.TRef sig ⟨S16384x50x1000, .i32⟩) (broadcastInDim S16384x50x1000 ![] bcast_S_S16384x50x1000)
  :: StableHlo.TRef.binary (.of main_call0_call0_call0_v53 : StableHlo.TRef sig ⟨S16384x50x1000, .i32⟩) (.of main_call0_call0_call0_v55 : StableHlo.TRef sig ⟨S16384x50x1000, .i32⟩) (.of main_call0_call0_call0_v56 : StableHlo.TRef sig ⟨S16384x50x1000, .i32⟩) Host.shli
  :: StableHlo.TRef.nullary (.of main_call0_call0_call0_c_14 : StableHlo.TRef sig ⟨S_, .i32⟩) (constantI S_ 32 16#32)
  :: StableHlo.TRef.unary (.of main_call0_call0_call0_c_14 : StableHlo.TRef sig ⟨S_, .i32⟩) (.of main_call0_call0_call0_v57 : StableHlo.TRef sig ⟨S16384x50x1000, .i32⟩) (broadcastInDim S16384x50x1000 ![] bcast_S_S16384x50x1000)
  :: StableHlo.TRef.binary (.of main_call0_call0_call0_v53 : StableHlo.TRef sig ⟨S16384x50x1000, .i32⟩) (.of main_call0_call0_call0_v57 : StableHlo.TRef sig ⟨S16384x50x1000, .i32⟩) (.of main_call0_call0_call0_v58 : StableHlo.TRef sig ⟨S16384x50x1000, .i32⟩) Host.shrui
  :: StableHlo.TRef.binary (.of main_call0_call0_call0_v56 : StableHlo.TRef sig ⟨S16384x50x1000, .i32⟩) (.of main_call0_call0_call0_v58 : StableHlo.TRef sig ⟨S16384x50x1000, .i32⟩) (.of main_call0_call0_call0_v59 : StableHlo.TRef sig ⟨S16384x50x1000, .i32⟩) ori
  :: StableHlo.TRef.binary (.of main_call0_call0_call0_v54 : StableHlo.TRef sig ⟨S16384x50x1000, .i32⟩) (.of main_call0_call0_call0_v59 : StableHlo.TRef sig ⟨S16384x50x1000, .i32⟩) (.of main_call0_call0_call0_v60 : StableHlo.TRef sig ⟨S16384x50x1000, .i32⟩) xori
  :: StableHlo.TRef.binary (.of main_call0_call0_call0_v54 : StableHlo.TRef sig ⟨S16384x50x1000, .i32⟩) (.of main_call0_call0_call0_v60 : StableHlo.TRef sig ⟨S16384x50x1000, .i32⟩) (.of main_call0_call0_call0_v61 : StableHlo.TRef sig ⟨S16384x50x1000, .i32⟩) addi
  :: StableHlo.TRef.nullary (.of main_call0_call0_call0_c_15 : StableHlo.TRef sig ⟨S_, .i32⟩) (constantI S_ 32 24#32)
  :: StableHlo.TRef.unary (.of main_call0_call0_call0_c_15 : StableHlo.TRef sig ⟨S_, .i32⟩) (.of main_call0_call0_call0_v62 : StableHlo.TRef sig ⟨S16384x50x1000, .i32⟩) (broadcastInDim S16384x50x1000 ![] bcast_S_S16384x50x1000)
  :: StableHlo.TRef.binary (.of main_call0_call0_call0_v60 : StableHlo.TRef sig ⟨S16384x50x1000, .i32⟩) (.of main_call0_call0_call0_v62 : StableHlo.TRef sig ⟨S16384x50x1000, .i32⟩) (.of main_call0_call0_call0_v63 : StableHlo.TRef sig ⟨S16384x50x1000, .i32⟩) Host.shli
  :: StableHlo.TRef.nullary (.of main_call0_call0_call0_c_16 : StableHlo.TRef sig ⟨S_, .i32⟩) (constantI S_ 32 8#32)
  :: StableHlo.TRef.unary (.of main_call0_call0_call0_c_16 : StableHlo.TRef sig ⟨S_, .i32⟩) (.of main_call0_call0_call0_v64 : StableHlo.TRef sig ⟨S16384x50x1000, .i32⟩) (broadcastInDim S16384x50x1000 ![] bcast_S_S16384x50x1000)
  :: StableHlo.TRef.binary (.of main_call0_call0_call0_v60 : StableHlo.TRef sig ⟨S16384x50x1000, .i32⟩) (.of main_call0_call0_call0_v64 : StableHlo.TRef sig ⟨S16384x50x1000, .i32⟩) (.of main_call0_call0_call0_v65 : StableHlo.TRef sig ⟨S16384x50x1000, .i32⟩) Host.shrui
  :: StableHlo.TRef.binary (.of main_call0_call0_call0_v63 : StableHlo.TRef sig ⟨S16384x50x1000, .i32⟩) (.of main_call0_call0_call0_v65 : StableHlo.TRef sig ⟨S16384x50x1000, .i32⟩) (.of main_call0_call0_call0_v66 : StableHlo.TRef sig ⟨S16384x50x1000, .i32⟩) ori
  :: StableHlo.TRef.binary (.of main_call0_call0_call0_v61 : StableHlo.TRef sig ⟨S16384x50x1000, .i32⟩) (.of main_call0_call0_call0_v66 : StableHlo.TRef sig ⟨S16384x50x1000, .i32⟩) (.of main_call0_call0_call0_v67 : StableHlo.TRef sig ⟨S16384x50x1000, .i32⟩) xori
  :: StableHlo.TRef.unary (.of main_call0_call0_call0_v1 : StableHlo.TRef sig ⟨S_, .i32⟩) (.of main_call0_call0_call0_v68 : StableHlo.TRef sig ⟨S16384x50x1000, .i32⟩) (broadcastInDim S16384x50x1000 ![] bcast_S_S16384x50x1000)
  :: StableHlo.TRef.binary (.of main_call0_call0_call0_v61 : StableHlo.TRef sig ⟨S16384x50x1000, .i32⟩) (.of main_call0_call0_call0_v68 : StableHlo.TRef sig ⟨S16384x50x1000, .i32⟩) (.of main_call0_call0_call0_v69 : StableHlo.TRef sig ⟨S16384x50x1000, .i32⟩) addi
  :: StableHlo.TRef.unary (.of main_call0_call0_v4 : StableHlo.TRef sig ⟨S_, .i32⟩) (.of main_call0_call0_call0_v70 : StableHlo.TRef sig ⟨S16384x50x1000, .i32⟩) (broadcastInDim S16384x50x1000 ![] bcast_S_S16384x50x1000)
  :: StableHlo.TRef.binary (.of main_call0_call0_call0_v67 : StableHlo.TRef sig ⟨S16384x50x1000, .i32⟩) (.of main_call0_call0_call0_v70 : StableHlo.TRef sig ⟨S16384x50x1000, .i32⟩) (.of main_call0_call0_call0_v71 : StableHlo.TRef sig ⟨S16384x50x1000, .i32⟩) addi
  :: StableHlo.TRef.nullary (.of main_call0_call0_call0_c_17 : StableHlo.TRef sig ⟨S_, .i32⟩) (constantI S_ 32 2#32)
  :: StableHlo.TRef.unary (.of main_call0_call0_call0_c_17 : StableHlo.TRef sig ⟨S_, .i32⟩) (.of main_call0_call0_call0_v72 : StableHlo.TRef sig ⟨S16384x50x1000, .i32⟩) (broadcastInDim S16384x50x1000 ![] bcast_S_S16384x50x1000)
  :: StableHlo.TRef.binary (.of main_call0_call0_call0_v71 : StableHlo.TRef sig ⟨S16384x50x1000, .i32⟩) (.of main_call0_call0_call0_v72 : StableHlo.TRef sig ⟨S16384x50x1000, .i32⟩) (.of main_call0_call0_call0_v73 : StableHlo.TRef sig ⟨S16384x50x1000, .i32⟩) addi
  :: StableHlo.TRef.binary (.of main_call0_call0_call0_v69 : StableHlo.TRef sig ⟨S16384x50x1000, .i32⟩) (.of main_call0_call0_call0_v73 : StableHlo.TRef sig ⟨S16384x50x1000, .i32⟩) (.of main_call0_call0_call0_v74 : StableHlo.TRef sig ⟨S16384x50x1000, .i32⟩) addi
  :: StableHlo.TRef.nullary (.of main_call0_call0_call0_c_18 : StableHlo.TRef sig ⟨S_, .i32⟩) (constantI S_ 32 13#32)
  :: StableHlo.TRef.unary (.of main_call0_call0_call0_c_18 : StableHlo.TRef sig ⟨S_, .i32⟩) (.of main_call0_call0_call0_v75 : StableHlo.TRef sig ⟨S16384x50x1000, .i32⟩) (broadcastInDim S16384x50x1000 ![] bcast_S_S16384x50x1000)
  :: StableHlo.TRef.binary (.of main_call0_call0_call0_v73 : StableHlo.TRef sig ⟨S16384x50x1000, .i32⟩) (.of main_call0_call0_call0_v75 : StableHlo.TRef sig ⟨S16384x50x1000, .i32⟩) (.of main_call0_call0_call0_v76 : StableHlo.TRef sig ⟨S16384x50x1000, .i32⟩) Host.shli
  :: StableHlo.TRef.nullary (.of main_call0_call0_call0_c_19 : StableHlo.TRef sig ⟨S_, .i32⟩) (constantI S_ 32 19#32)
  :: StableHlo.TRef.unary (.of main_call0_call0_call0_c_19 : StableHlo.TRef sig ⟨S_, .i32⟩) (.of main_call0_call0_call0_v77 : StableHlo.TRef sig ⟨S16384x50x1000, .i32⟩) (broadcastInDim S16384x50x1000 ![] bcast_S_S16384x50x1000)
  :: StableHlo.TRef.binary (.of main_call0_call0_call0_v73 : StableHlo.TRef sig ⟨S16384x50x1000, .i32⟩) (.of main_call0_call0_call0_v77 : StableHlo.TRef sig ⟨S16384x50x1000, .i32⟩) (.of main_call0_call0_call0_v78 : StableHlo.TRef sig ⟨S16384x50x1000, .i32⟩) Host.shrui
  :: StableHlo.TRef.binary (.of main_call0_call0_call0_v76 : StableHlo.TRef sig ⟨S16384x50x1000, .i32⟩) (.of main_call0_call0_call0_v78 : StableHlo.TRef sig ⟨S16384x50x1000, .i32⟩) (.of main_call0_call0_call0_v79 : StableHlo.TRef sig ⟨S16384x50x1000, .i32⟩) ori
  :: StableHlo.TRef.binary (.of main_call0_call0_call0_v74 : StableHlo.TRef sig ⟨S16384x50x1000, .i32⟩) (.of main_call0_call0_call0_v79 : StableHlo.TRef sig ⟨S16384x50x1000, .i32⟩) (.of main_call0_call0_call0_v80 : StableHlo.TRef sig ⟨S16384x50x1000, .i32⟩) xori
  :: StableHlo.TRef.binary (.of main_call0_call0_call0_v74 : StableHlo.TRef sig ⟨S16384x50x1000, .i32⟩) (.of main_call0_call0_call0_v80 : StableHlo.TRef sig ⟨S16384x50x1000, .i32⟩) (.of main_call0_call0_call0_v81 : StableHlo.TRef sig ⟨S16384x50x1000, .i32⟩) addi
  :: StableHlo.TRef.nullary (.of main_call0_call0_call0_c_20 : StableHlo.TRef sig ⟨S_, .i32⟩) (constantI S_ 32 15#32)
  :: StableHlo.TRef.unary (.of main_call0_call0_call0_c_20 : StableHlo.TRef sig ⟨S_, .i32⟩) (.of main_call0_call0_call0_v82 : StableHlo.TRef sig ⟨S16384x50x1000, .i32⟩) (broadcastInDim S16384x50x1000 ![] bcast_S_S16384x50x1000)
  :: StableHlo.TRef.binary (.of main_call0_call0_call0_v80 : StableHlo.TRef sig ⟨S16384x50x1000, .i32⟩) (.of main_call0_call0_call0_v82 : StableHlo.TRef sig ⟨S16384x50x1000, .i32⟩) (.of main_call0_call0_call0_v83 : StableHlo.TRef sig ⟨S16384x50x1000, .i32⟩) Host.shli
  :: StableHlo.TRef.nullary (.of main_call0_call0_call0_c_21 : StableHlo.TRef sig ⟨S_, .i32⟩) (constantI S_ 32 17#32)
  :: StableHlo.TRef.unary (.of main_call0_call0_call0_c_21 : StableHlo.TRef sig ⟨S_, .i32⟩) (.of main_call0_call0_call0_v84 : StableHlo.TRef sig ⟨S16384x50x1000, .i32⟩) (broadcastInDim S16384x50x1000 ![] bcast_S_S16384x50x1000)
  :: StableHlo.TRef.binary (.of main_call0_call0_call0_v80 : StableHlo.TRef sig ⟨S16384x50x1000, .i32⟩) (.of main_call0_call0_call0_v84 : StableHlo.TRef sig ⟨S16384x50x1000, .i32⟩) (.of main_call0_call0_call0_v85 : StableHlo.TRef sig ⟨S16384x50x1000, .i32⟩) Host.shrui
  :: StableHlo.TRef.binary (.of main_call0_call0_call0_v83 : StableHlo.TRef sig ⟨S16384x50x1000, .i32⟩) (.of main_call0_call0_call0_v85 : StableHlo.TRef sig ⟨S16384x50x1000, .i32⟩) (.of main_call0_call0_call0_v86 : StableHlo.TRef sig ⟨S16384x50x1000, .i32⟩) ori
  :: StableHlo.TRef.binary (.of main_call0_call0_call0_v81 : StableHlo.TRef sig ⟨S16384x50x1000, .i32⟩) (.of main_call0_call0_call0_v86 : StableHlo.TRef sig ⟨S16384x50x1000, .i32⟩) (.of main_call0_call0_call0_v87 : StableHlo.TRef sig ⟨S16384x50x1000, .i32⟩) xori
  :: StableHlo.TRef.binary (.of main_call0_call0_call0_v81 : StableHlo.TRef sig ⟨S16384x50x1000, .i32⟩) (.of main_call0_call0_call0_v87 : StableHlo.TRef sig ⟨S16384x50x1000, .i32⟩) (.of main_call0_call0_call0_v88 : StableHlo.TRef sig ⟨S16384x50x1000, .i32⟩) addi
  :: StableHlo.TRef.nullary (.of main_call0_call0_call0_c_22 : StableHlo.TRef sig ⟨S_, .i32⟩) (constantI S_ 32 26#32)
  :: StableHlo.TRef.unary (.of main_call0_call0_call0_c_22 : StableHlo.TRef sig ⟨S_, .i32⟩) (.of main_call0_call0_call0_v89 : StableHlo.TRef sig ⟨S16384x50x1000, .i32⟩) (broadcastInDim S16384x50x1000 ![] bcast_S_S16384x50x1000)
  :: StableHlo.TRef.binary (.of main_call0_call0_call0_v87 : StableHlo.TRef sig ⟨S16384x50x1000, .i32⟩) (.of main_call0_call0_call0_v89 : StableHlo.TRef sig ⟨S16384x50x1000, .i32⟩) (.of main_call0_call0_call0_v90 : StableHlo.TRef sig ⟨S16384x50x1000, .i32⟩) Host.shli
  :: StableHlo.TRef.nullary (.of main_call0_call0_call0_c_23 : StableHlo.TRef sig ⟨S_, .i32⟩) (constantI S_ 32 6#32)
  :: StableHlo.TRef.unary (.of main_call0_call0_call0_c_23 : StableHlo.TRef sig ⟨S_, .i32⟩) (.of main_call0_call0_call0_v91 : StableHlo.TRef sig ⟨S16384x50x1000, .i32⟩) (broadcastInDim S16384x50x1000 ![] bcast_S_S16384x50x1000)
  :: StableHlo.TRef.binary (.of main_call0_call0_call0_v87 : StableHlo.TRef sig ⟨S16384x50x1000, .i32⟩) (.of main_call0_call0_call0_v91 : StableHlo.TRef sig ⟨S16384x50x1000, .i32⟩) (.of main_call0_call0_call0_v92 : StableHlo.TRef sig ⟨S16384x50x1000, .i32⟩) Host.shrui
  :: StableHlo.TRef.binary (.of main_call0_call0_call0_v90 : StableHlo.TRef sig ⟨S16384x50x1000, .i32⟩) (.of main_call0_call0_call0_v92 : StableHlo.TRef sig ⟨S16384x50x1000, .i32⟩) (.of main_call0_call0_call0_v93 : StableHlo.TRef sig ⟨S16384x50x1000, .i32⟩) ori
  :: StableHlo.TRef.binary (.of main_call0_call0_call0_v88 : StableHlo.TRef sig ⟨S16384x50x1000, .i32⟩) (.of main_call0_call0_call0_v93 : StableHlo.TRef sig ⟨S16384x50x1000, .i32⟩) (.of main_call0_call0_call0_v94 : StableHlo.TRef sig ⟨S16384x50x1000, .i32⟩) xori
  :: StableHlo.TRef.binary (.of main_call0_call0_call0_v88 : StableHlo.TRef sig ⟨S16384x50x1000, .i32⟩) (.of main_call0_call0_call0_v94 : StableHlo.TRef sig ⟨S16384x50x1000, .i32⟩) (.of main_call0_call0_call0_v95 : StableHlo.TRef sig ⟨S16384x50x1000, .i32⟩) addi
  :: StableHlo.TRef.nullary (.of main_call0_call0_call0_c_24 : StableHlo.TRef sig ⟨S_, .i32⟩) (constantI S_ 32 6#32)
  :: StableHlo.TRef.unary (.of main_call0_call0_call0_c_24 : StableHlo.TRef sig ⟨S_, .i32⟩) (.of main_call0_call0_call0_v96 : StableHlo.TRef sig ⟨S16384x50x1000, .i32⟩) (broadcastInDim S16384x50x1000 ![] bcast_S_S16384x50x1000)
  :: StableHlo.TRef.binary (.of main_call0_call0_call0_v94 : StableHlo.TRef sig ⟨S16384x50x1000, .i32⟩) (.of main_call0_call0_call0_v96 : StableHlo.TRef sig ⟨S16384x50x1000, .i32⟩) (.of main_call0_call0_call0_v97 : StableHlo.TRef sig ⟨S16384x50x1000, .i32⟩) Host.shli
  :: StableHlo.TRef.nullary (.of main_call0_call0_call0_c_25 : StableHlo.TRef sig ⟨S_, .i32⟩) (constantI S_ 32 26#32)
  :: StableHlo.TRef.unary (.of main_call0_call0_call0_c_25 : StableHlo.TRef sig ⟨S_, .i32⟩) (.of main_call0_call0_call0_v98 : StableHlo.TRef sig ⟨S16384x50x1000, .i32⟩) (broadcastInDim S16384x50x1000 ![] bcast_S_S16384x50x1000)
  :: StableHlo.TRef.binary (.of main_call0_call0_call0_v94 : StableHlo.TRef sig ⟨S16384x50x1000, .i32⟩) (.of main_call0_call0_call0_v98 : StableHlo.TRef sig ⟨S16384x50x1000, .i32⟩) (.of main_call0_call0_call0_v99 : StableHlo.TRef sig ⟨S16384x50x1000, .i32⟩) Host.shrui
  :: StableHlo.TRef.binary (.of main_call0_call0_call0_v97 : StableHlo.TRef sig ⟨S16384x50x1000, .i32⟩) (.of main_call0_call0_call0_v99 : StableHlo.TRef sig ⟨S16384x50x1000, .i32⟩) (.of main_call0_call0_call0_v100 : StableHlo.TRef sig ⟨S16384x50x1000, .i32⟩) ori
  :: StableHlo.TRef.binary (.of main_call0_call0_call0_v95 : StableHlo.TRef sig ⟨S16384x50x1000, .i32⟩) (.of main_call0_call0_call0_v100 : StableHlo.TRef sig ⟨S16384x50x1000, .i32⟩) (.of main_call0_call0_call0_v101 : StableHlo.TRef sig ⟨S16384x50x1000, .i32⟩) xori
  :: StableHlo.TRef.unary (.of main_call0_call0_v4 : StableHlo.TRef sig ⟨S_, .i32⟩) (.of main_call0_call0_call0_v102 : StableHlo.TRef sig ⟨S16384x50x1000, .i32⟩) (broadcastInDim S16384x50x1000 ![] bcast_S_S16384x50x1000)
  :: StableHlo.TRef.binary (.of main_call0_call0_call0_v95 : StableHlo.TRef sig ⟨S16384x50x1000, .i32⟩) (.of main_call0_call0_call0_v102 : StableHlo.TRef sig ⟨S16384x50x1000, .i32⟩) (.of main_call0_call0_call0_v103 : StableHlo.TRef sig ⟨S16384x50x1000, .i32⟩) addi
  :: StableHlo.TRef.unary (.of main_call0_call0_v6 : StableHlo.TRef sig ⟨S_, .i32⟩) (.of main_call0_call0_call0_v104 : StableHlo.TRef sig ⟨S16384x50x1000, .i32⟩) (broadcastInDim S16384x50x1000 ![] bcast_S_S16384x50x1000)
  :: StableHlo.TRef.binary (.of main_call0_call0_call0_v101 : StableHlo.TRef sig ⟨S16384x50x1000, .i32⟩) (.of main_call0_call0_call0_v104 : StableHlo.TRef sig ⟨S16384x50x1000, .i32⟩) (.of main_call0_call0_call0_v105 : StableHlo.TRef sig ⟨S16384x50x1000, .i32⟩) addi
  :: StableHlo.TRef.nullary (.of main_call0_call0_call0_c_26 : StableHlo.TRef sig ⟨S_, .i32⟩) (constantI S_ 32 3#32)
  :: StableHlo.TRef.unary (.of main_call0_call0_call0_c_26 : StableHlo.TRef sig ⟨S_, .i32⟩) (.of main_call0_call0_call0_v106 : StableHlo.TRef sig ⟨S16384x50x1000, .i32⟩) (broadcastInDim S16384x50x1000 ![] bcast_S_S16384x50x1000)
  :: StableHlo.TRef.binary (.of main_call0_call0_call0_v105 : StableHlo.TRef sig ⟨S16384x50x1000, .i32⟩) (.of main_call0_call0_call0_v106 : StableHlo.TRef sig ⟨S16384x50x1000, .i32⟩) (.of main_call0_call0_call0_v107 : StableHlo.TRef sig ⟨S16384x50x1000, .i32⟩) addi
  :: StableHlo.TRef.binary (.of main_call0_call0_call0_v103 : StableHlo.TRef sig ⟨S16384x50x1000, .i32⟩) (.of main_call0_call0_call0_v107 : StableHlo.TRef sig ⟨S16384x50x1000, .i32⟩) (.of main_call0_call0_call0_v108 : StableHlo.TRef sig ⟨S16384x50x1000, .i32⟩) addi
  :: StableHlo.TRef.nullary (.of main_call0_call0_call0_c_27 : StableHlo.TRef sig ⟨S_, .i32⟩) (constantI S_ 32 17#32)
  :: StableHlo.TRef.unary (.of main_call0_call0_call0_c_27 : StableHlo.TRef sig ⟨S_, .i32⟩) (.of main_call0_call0_call0_v109 : StableHlo.TRef sig ⟨S16384x50x1000, .i32⟩) (broadcastInDim S16384x50x1000 ![] bcast_S_S16384x50x1000)
  :: StableHlo.TRef.binary (.of main_call0_call0_call0_v107 : StableHlo.TRef sig ⟨S16384x50x1000, .i32⟩) (.of main_call0_call0_call0_v109 : StableHlo.TRef sig ⟨S16384x50x1000, .i32⟩) (.of main_call0_call0_call0_v110 : StableHlo.TRef sig ⟨S16384x50x1000, .i32⟩) Host.shli
  :: StableHlo.TRef.nullary (.of main_call0_call0_call0_c_28 : StableHlo.TRef sig ⟨S_, .i32⟩) (constantI S_ 32 15#32)
  :: StableHlo.TRef.unary (.of main_call0_call0_call0_c_28 : StableHlo.TRef sig ⟨S_, .i32⟩) (.of main_call0_call0_call0_v111 : StableHlo.TRef sig ⟨S16384x50x1000, .i32⟩) (broadcastInDim S16384x50x1000 ![] bcast_S_S16384x50x1000)
  :: StableHlo.TRef.binary (.of main_call0_call0_call0_v107 : StableHlo.TRef sig ⟨S16384x50x1000, .i32⟩) (.of main_call0_call0_call0_v111 : StableHlo.TRef sig ⟨S16384x50x1000, .i32⟩) (.of main_call0_call0_call0_v112 : StableHlo.TRef sig ⟨S16384x50x1000, .i32⟩) Host.shrui
  :: StableHlo.TRef.binary (.of main_call0_call0_call0_v110 : StableHlo.TRef sig ⟨S16384x50x1000, .i32⟩) (.of main_call0_call0_call0_v112 : StableHlo.TRef sig ⟨S16384x50x1000, .i32⟩) (.of main_call0_call0_call0_v113 : StableHlo.TRef sig ⟨S16384x50x1000, .i32⟩) ori
  :: StableHlo.TRef.binary (.of main_call0_call0_call0_v108 : StableHlo.TRef sig ⟨S16384x50x1000, .i32⟩) (.of main_call0_call0_call0_v113 : StableHlo.TRef sig ⟨S16384x50x1000, .i32⟩) (.of main_call0_call0_call0_v114 : StableHlo.TRef sig ⟨S16384x50x1000, .i32⟩) xori
  :: StableHlo.TRef.binary (.of main_call0_call0_call0_v108 : StableHlo.TRef sig ⟨S16384x50x1000, .i32⟩) (.of main_call0_call0_call0_v114 : StableHlo.TRef sig ⟨S16384x50x1000, .i32⟩) (.of main_call0_call0_call0_v115 : StableHlo.TRef sig ⟨S16384x50x1000, .i32⟩) addi
  :: StableHlo.TRef.nullary (.of main_call0_call0_call0_c_29 : StableHlo.TRef sig ⟨S_, .i32⟩) (constantI S_ 32 29#32)
  :: StableHlo.TRef.unary (.of main_call0_call0_call0_c_29 : StableHlo.TRef sig ⟨S_, .i32⟩) (.of main_call0_call0_call0_v116 : StableHlo.TRef sig ⟨S16384x50x1000, .i32⟩) (broadcastInDim S16384x50x1000 ![] bcast_S_S16384x50x1000)
  :: StableHlo.TRef.binary (.of main_call0_call0_call0_v114 : StableHlo.TRef sig ⟨S16384x50x1000, .i32⟩) (.of main_call0_call0_call0_v116 : StableHlo.TRef sig ⟨S16384x50x1000, .i32⟩) (.of main_call0_call0_call0_v117 : StableHlo.TRef sig ⟨S16384x50x1000, .i32⟩) Host.shli
  :: StableHlo.TRef.nullary (.of main_call0_call0_call0_c_30 : StableHlo.TRef sig ⟨S_, .i32⟩) (constantI S_ 32 3#32)
  :: StableHlo.TRef.unary (.of main_call0_call0_call0_c_30 : StableHlo.TRef sig ⟨S_, .i32⟩) (.of main_call0_call0_call0_v118 : StableHlo.TRef sig ⟨S16384x50x1000, .i32⟩) (broadcastInDim S16384x50x1000 ![] bcast_S_S16384x50x1000)
  :: StableHlo.TRef.binary (.of main_call0_call0_call0_v114 : StableHlo.TRef sig ⟨S16384x50x1000, .i32⟩) (.of main_call0_call0_call0_v118 : StableHlo.TRef sig ⟨S16384x50x1000, .i32⟩) (.of main_call0_call0_call0_v119 : StableHlo.TRef sig ⟨S16384x50x1000, .i32⟩) Host.shrui
  :: StableHlo.TRef.binary (.of main_call0_call0_call0_v117 : StableHlo.TRef sig ⟨S16384x50x1000, .i32⟩) (.of main_call0_call0_call0_v119 : StableHlo.TRef sig ⟨S16384x50x1000, .i32⟩) (.of main_call0_call0_call0_v120 : StableHlo.TRef sig ⟨S16384x50x1000, .i32⟩) ori
  :: StableHlo.TRef.binary (.of main_call0_call0_call0_v115 : StableHlo.TRef sig ⟨S16384x50x1000, .i32⟩) (.of main_call0_call0_call0_v120 : StableHlo.TRef sig ⟨S16384x50x1000, .i32⟩) (.of main_call0_call0_call0_v121 : StableHlo.TRef sig ⟨S16384x50x1000, .i32⟩) xori
  :: StableHlo.TRef.binary (.of main_call0_call0_call0_v115 : StableHlo.TRef sig ⟨S16384x50x1000, .i32⟩) (.of main_call0_call0_call0_v121 : StableHlo.TRef sig ⟨S16384x50x1000, .i32⟩) (.of main_call0_call0_call0_v122 : StableHlo.TRef sig ⟨S16384x50x1000, .i32⟩) addi
  :: StableHlo.TRef.nullary (.of main_call0_call0_call0_c_31 : StableHlo.TRef sig ⟨S_, .i32⟩) (constantI S_ 32 16#32)
  :: StableHlo.TRef.unary (.of main_call0_call0_call0_c_31 : StableHlo.TRef sig ⟨S_, .i32⟩) (.of main_call0_call0_call0_v123 : StableHlo.TRef sig ⟨S16384x50x1000, .i32⟩) (broadcastInDim S16384x50x1000 ![] bcast_S_S16384x50x1000)
  :: StableHlo.TRef.binary (.of main_call0_call0_call0_v121 : StableHlo.TRef sig ⟨S16384x50x1000, .i32⟩) (.of main_call0_call0_call0_v123 : StableHlo.TRef sig ⟨S16384x50x1000, .i32⟩) (.of main_call0_call0_call0_v124 : StableHlo.TRef sig ⟨S16384x50x1000, .i32⟩) Host.shli
  :: StableHlo.TRef.nullary (.of main_call0_call0_call0_c_32 : StableHlo.TRef sig ⟨S_, .i32⟩) (constantI S_ 32 16#32)
  :: StableHlo.TRef.unary (.of main_call0_call0_call0_c_32 : StableHlo.TRef sig ⟨S_, .i32⟩) (.of main_call0_call0_call0_v125 : StableHlo.TRef sig ⟨S16384x50x1000, .i32⟩) (broadcastInDim S16384x50x1000 ![] bcast_S_S16384x50x1000)
  :: StableHlo.TRef.binary (.of main_call0_call0_call0_v121 : StableHlo.TRef sig ⟨S16384x50x1000, .i32⟩) (.of main_call0_call0_call0_v125 : StableHlo.TRef sig ⟨S16384x50x1000, .i32⟩) (.of main_call0_call0_call0_v126 : StableHlo.TRef sig ⟨S16384x50x1000, .i32⟩) Host.shrui
  :: StableHlo.TRef.binary (.of main_call0_call0_call0_v124 : StableHlo.TRef sig ⟨S16384x50x1000, .i32⟩) (.of main_call0_call0_call0_v126 : StableHlo.TRef sig ⟨S16384x50x1000, .i32⟩) (.of main_call0_call0_call0_v127 : StableHlo.TRef sig ⟨S16384x50x1000, .i32⟩) ori
  :: StableHlo.TRef.binary (.of main_call0_call0_call0_v122 : StableHlo.TRef sig ⟨S16384x50x1000, .i32⟩) (.of main_call0_call0_call0_v127 : StableHlo.TRef sig ⟨S16384x50x1000, .i32⟩) (.of main_call0_call0_call0_v128 : StableHlo.TRef sig ⟨S16384x50x1000, .i32⟩) xori
  :: StableHlo.TRef.binary (.of main_call0_call0_call0_v122 : StableHlo.TRef sig ⟨S16384x50x1000, .i32⟩) (.of main_call0_call0_call0_v128 : StableHlo.TRef sig ⟨S16384x50x1000, .i32⟩) (.of main_call0_call0_call0_v129 : StableHlo.TRef sig ⟨S16384x50x1000, .i32⟩) addi
  :: StableHlo.TRef.nullary (.of main_call0_call0_call0_c_33 : StableHlo.TRef sig ⟨S_, .i32⟩) (constantI S_ 32 24#32)
  :: StableHlo.TRef.unary (.of main_call0_call0_call0_c_33 : StableHlo.TRef sig ⟨S_, .i32⟩) (.of main_call0_call0_call0_v130 : StableHlo.TRef sig ⟨S16384x50x1000, .i32⟩) (broadcastInDim S16384x50x1000 ![] bcast_S_S16384x50x1000)
  :: StableHlo.TRef.binary (.of main_call0_call0_call0_v128 : StableHlo.TRef sig ⟨S16384x50x1000, .i32⟩) (.of main_call0_call0_call0_v130 : StableHlo.TRef sig ⟨S16384x50x1000, .i32⟩) (.of main_call0_call0_call0_v131 : StableHlo.TRef sig ⟨S16384x50x1000, .i32⟩) Host.shli
  :: StableHlo.TRef.nullary (.of main_call0_call0_call0_c_34 : StableHlo.TRef sig ⟨S_, .i32⟩) (constantI S_ 32 8#32)
  :: StableHlo.TRef.unary (.of main_call0_call0_call0_c_34 : StableHlo.TRef sig ⟨S_, .i32⟩) (.of main_call0_call0_call0_v132 : StableHlo.TRef sig ⟨S16384x50x1000, .i32⟩) (broadcastInDim S16384x50x1000 ![] bcast_S_S16384x50x1000)
  :: StableHlo.TRef.binary (.of main_call0_call0_call0_v128 : StableHlo.TRef sig ⟨S16384x50x1000, .i32⟩) (.of main_call0_call0_call0_v132 : StableHlo.TRef sig ⟨S16384x50x1000, .i32⟩) (.of main_call0_call0_call0_v133 : StableHlo.TRef sig ⟨S16384x50x1000, .i32⟩) Host.shrui
  :: StableHlo.TRef.binary (.of main_call0_call0_call0_v131 : StableHlo.TRef sig ⟨S16384x50x1000, .i32⟩) (.of main_call0_call0_call0_v133 : StableHlo.TRef sig ⟨S16384x50x1000, .i32⟩) (.of main_call0_call0_call0_v134 : StableHlo.TRef sig ⟨S16384x50x1000, .i32⟩) ori
  :: StableHlo.TRef.binary (.of main_call0_call0_call0_v129 : StableHlo.TRef sig ⟨S16384x50x1000, .i32⟩) (.of main_call0_call0_call0_v134 : StableHlo.TRef sig ⟨S16384x50x1000, .i32⟩) (.of main_call0_call0_call0_v135 : StableHlo.TRef sig ⟨S16384x50x1000, .i32⟩) xori
  :: StableHlo.TRef.unary (.of main_call0_call0_v6 : StableHlo.TRef sig ⟨S_, .i32⟩) (.of main_call0_call0_call0_v136 : StableHlo.TRef sig ⟨S16384x50x1000, .i32⟩) (broadcastInDim S16384x50x1000 ![] bcast_S_S16384x50x1000)
  :: StableHlo.TRef.binary (.of main_call0_call0_call0_v129 : StableHlo.TRef sig ⟨S16384x50x1000, .i32⟩) (.of main_call0_call0_call0_v136 : StableHlo.TRef sig ⟨S16384x50x1000, .i32⟩) (.of main_call0_call0_call0_v137 : StableHlo.TRef sig ⟨S16384x50x1000, .i32⟩) addi
  :: StableHlo.TRef.unary (.of main_call0_call0_call0_v1 : StableHlo.TRef sig ⟨S_, .i32⟩) (.of main_call0_call0_call0_v138 : StableHlo.TRef sig ⟨S16384x50x1000, .i32⟩) (broadcastInDim S16384x50x1000 ![] bcast_S_S16384x50x1000)
  :: StableHlo.TRef.binary (.of main_call0_call0_call0_v135 : StableHlo.TRef sig ⟨S16384x50x1000, .i32⟩) (.of main_call0_call0_call0_v138 : StableHlo.TRef sig ⟨S16384x50x1000, .i32⟩) (.of main_call0_call0_call0_v139 : StableHlo.TRef sig ⟨S16384x50x1000, .i32⟩) addi
  :: StableHlo.TRef.nullary (.of main_call0_call0_call0_c_35 : StableHlo.TRef sig ⟨S_, .i32⟩) (constantI S_ 32 4#32)
  :: StableHlo.TRef.unary (.of main_call0_call0_call0_c_35 : StableHlo.TRef sig ⟨S_, .i32⟩) (.of main_call0_call0_call0_v140 : StableHlo.TRef sig ⟨S16384x50x1000, .i32⟩) (broadcastInDim S16384x50x1000 ![] bcast_S_S16384x50x1000)
  :: StableHlo.TRef.binary (.of main_call0_call0_call0_v139 : StableHlo.TRef sig ⟨S16384x50x1000, .i32⟩) (.of main_call0_call0_call0_v140 : StableHlo.TRef sig ⟨S16384x50x1000, .i32⟩) (.of main_call0_call0_call0_v141 : StableHlo.TRef sig ⟨S16384x50x1000, .i32⟩) addi
  :: StableHlo.TRef.binary (.of main_call0_call0_call0_v137 : StableHlo.TRef sig ⟨S16384x50x1000, .i32⟩) (.of main_call0_call0_call0_v141 : StableHlo.TRef sig ⟨S16384x50x1000, .i32⟩) (.of main_call0_call0_call0_v142 : StableHlo.TRef sig ⟨S16384x50x1000, .i32⟩) addi
  :: StableHlo.TRef.nullary (.of main_call0_call0_call0_c_36 : StableHlo.TRef sig ⟨S_, .i32⟩) (constantI S_ 32 13#32)
  :: StableHlo.TRef.unary (.of main_call0_call0_call0_c_36 : StableHlo.TRef sig ⟨S_, .i32⟩) (.of main_call0_call0_call0_v143 : StableHlo.TRef sig ⟨S16384x50x1000, .i32⟩) (broadcastInDim S16384x50x1000 ![] bcast_S_S16384x50x1000)
  :: StableHlo.TRef.binary (.of main_call0_call0_call0_v141 : StableHlo.TRef sig ⟨S16384x50x1000, .i32⟩) (.of main_call0_call0_call0_v143 : StableHlo.TRef sig ⟨S16384x50x1000, .i32⟩) (.of main_call0_call0_call0_v144 : StableHlo.TRef sig ⟨S16384x50x1000, .i32⟩) Host.shli
  :: StableHlo.TRef.nullary (.of main_call0_call0_call0_c_37 : StableHlo.TRef sig ⟨S_, .i32⟩) (constantI S_ 32 19#32)
  :: StableHlo.TRef.unary (.of main_call0_call0_call0_c_37 : StableHlo.TRef sig ⟨S_, .i32⟩) (.of main_call0_call0_call0_v145 : StableHlo.TRef sig ⟨S16384x50x1000, .i32⟩) (broadcastInDim S16384x50x1000 ![] bcast_S_S16384x50x1000)
  :: StableHlo.TRef.binary (.of main_call0_call0_call0_v141 : StableHlo.TRef sig ⟨S16384x50x1000, .i32⟩) (.of main_call0_call0_call0_v145 : StableHlo.TRef sig ⟨S16384x50x1000, .i32⟩) (.of main_call0_call0_call0_v146 : StableHlo.TRef sig ⟨S16384x50x1000, .i32⟩) Host.shrui
  :: StableHlo.TRef.binary (.of main_call0_call0_call0_v144 : StableHlo.TRef sig ⟨S16384x50x1000, .i32⟩) (.of main_call0_call0_call0_v146 : StableHlo.TRef sig ⟨S16384x50x1000, .i32⟩) (.of main_call0_call0_call0_v147 : StableHlo.TRef sig ⟨S16384x50x1000, .i32⟩) ori
  :: StableHlo.TRef.binary (.of main_call0_call0_call0_v142 : StableHlo.TRef sig ⟨S16384x50x1000, .i32⟩) (.of main_call0_call0_call0_v147 : StableHlo.TRef sig ⟨S16384x50x1000, .i32⟩) (.of main_call0_call0_call0_v148 : StableHlo.TRef sig ⟨S16384x50x1000, .i32⟩) xori
  :: StableHlo.TRef.binary (.of main_call0_call0_call0_v142 : StableHlo.TRef sig ⟨S16384x50x1000, .i32⟩) (.of main_call0_call0_call0_v148 : StableHlo.TRef sig ⟨S16384x50x1000, .i32⟩) (.of main_call0_call0_call0_v149 : StableHlo.TRef sig ⟨S16384x50x1000, .i32⟩) addi
  :: StableHlo.TRef.nullary (.of main_call0_call0_call0_c_38 : StableHlo.TRef sig ⟨S_, .i32⟩) (constantI S_ 32 15#32)
  :: StableHlo.TRef.unary (.of main_call0_call0_call0_c_38 : StableHlo.TRef sig ⟨S_, .i32⟩) (.of main_call0_call0_call0_v150 : StableHlo.TRef sig ⟨S16384x50x1000, .i32⟩) (broadcastInDim S16384x50x1000 ![] bcast_S_S16384x50x1000)
  :: StableHlo.TRef.binary (.of main_call0_call0_call0_v148 : StableHlo.TRef sig ⟨S16384x50x1000, .i32⟩) (.of main_call0_call0_call0_v150 : StableHlo.TRef sig ⟨S16384x50x1000, .i32⟩) (.of main_call0_call0_call0_v151 : StableHlo.TRef sig ⟨S16384x50x1000, .i32⟩) Host.shli
  :: StableHlo.TRef.nullary (.of main_call0_call0_call0_c_39 : StableHlo.TRef sig ⟨S_, .i32⟩) (constantI S_ 32 17#32)
  :: StableHlo.TRef.unary (.of main_call0_call0_call0_c_39 : StableHlo.TRef sig ⟨S_, .i32⟩) (.of main_call0_call0_call0_v152 : StableHlo.TRef sig ⟨S16384x50x1000, .i32⟩) (broadcastInDim S16384x50x1000 ![] bcast_S_S16384x50x1000)
  :: StableHlo.TRef.binary (.of main_call0_call0_call0_v148 : StableHlo.TRef sig ⟨S16384x50x1000, .i32⟩) (.of main_call0_call0_call0_v152 : StableHlo.TRef sig ⟨S16384x50x1000, .i32⟩) (.of main_call0_call0_call0_v153 : StableHlo.TRef sig ⟨S16384x50x1000, .i32⟩) Host.shrui
  :: StableHlo.TRef.binary (.of main_call0_call0_call0_v151 : StableHlo.TRef sig ⟨S16384x50x1000, .i32⟩) (.of main_call0_call0_call0_v153 : StableHlo.TRef sig ⟨S16384x50x1000, .i32⟩) (.of main_call0_call0_call0_v154 : StableHlo.TRef sig ⟨S16384x50x1000, .i32⟩) ori
  :: StableHlo.TRef.binary (.of main_call0_call0_call0_v149 : StableHlo.TRef sig ⟨S16384x50x1000, .i32⟩) (.of main_call0_call0_call0_v154 : StableHlo.TRef sig ⟨S16384x50x1000, .i32⟩) (.of main_call0_call0_call0_v155 : StableHlo.TRef sig ⟨S16384x50x1000, .i32⟩) xori
  :: StableHlo.TRef.binary (.of main_call0_call0_call0_v149 : StableHlo.TRef sig ⟨S16384x50x1000, .i32⟩) (.of main_call0_call0_call0_v155 : StableHlo.TRef sig ⟨S16384x50x1000, .i32⟩) (.of main_call0_call0_call0_v156 : StableHlo.TRef sig ⟨S16384x50x1000, .i32⟩) addi
  :: StableHlo.TRef.nullary (.of main_call0_call0_call0_c_40 : StableHlo.TRef sig ⟨S_, .i32⟩) (constantI S_ 32 26#32)
  :: StableHlo.TRef.unary (.of main_call0_call0_call0_c_40 : StableHlo.TRef sig ⟨S_, .i32⟩) (.of main_call0_call0_call0_v157 : StableHlo.TRef sig ⟨S16384x50x1000, .i32⟩) (broadcastInDim S16384x50x1000 ![] bcast_S_S16384x50x1000)
  :: StableHlo.TRef.binary (.of main_call0_call0_call0_v155 : StableHlo.TRef sig ⟨S16384x50x1000, .i32⟩) (.of main_call0_call0_call0_v157 : StableHlo.TRef sig ⟨S16384x50x1000, .i32⟩) (.of main_call0_call0_call0_v158 : StableHlo.TRef sig ⟨S16384x50x1000, .i32⟩) Host.shli
  :: StableHlo.TRef.nullary (.of main_call0_call0_call0_c_41 : StableHlo.TRef sig ⟨S_, .i32⟩) (constantI S_ 32 6#32)
  :: StableHlo.TRef.unary (.of main_call0_call0_call0_c_41 : StableHlo.TRef sig ⟨S_, .i32⟩) (.of main_call0_call0_call0_v159 : StableHlo.TRef sig ⟨S16384x50x1000, .i32⟩) (broadcastInDim S16384x50x1000 ![] bcast_S_S16384x50x1000)
  :: StableHlo.TRef.binary (.of main_call0_call0_call0_v155 : StableHlo.TRef sig ⟨S16384x50x1000, .i32⟩) (.of main_call0_call0_call0_v159 : StableHlo.TRef sig ⟨S16384x50x1000, .i32⟩) (.of main_call0_call0_call0_v160 : StableHlo.TRef sig ⟨S16384x50x1000, .i32⟩) Host.shrui
  :: StableHlo.TRef.binary (.of main_call0_call0_call0_v158 : StableHlo.TRef sig ⟨S16384x50x1000, .i32⟩) (.of main_call0_call0_call0_v160 : StableHlo.TRef sig ⟨S16384x50x1000, .i32⟩) (.of main_call0_call0_call0_v161 : StableHlo.TRef sig ⟨S16384x50x1000, .i32⟩) ori
  :: StableHlo.TRef.binary (.of main_call0_call0_call0_v156 : StableHlo.TRef sig ⟨S16384x50x1000, .i32⟩) (.of main_call0_call0_call0_v161 : StableHlo.TRef sig ⟨S16384x50x1000, .i32⟩) (.of main_call0_call0_call0_v162 : StableHlo.TRef sig ⟨S16384x50x1000, .i32⟩) xori
  :: StableHlo.TRef.binary (.of main_call0_call0_call0_v156 : StableHlo.TRef sig ⟨S16384x50x1000, .i32⟩) (.of main_call0_call0_call0_v162 : StableHlo.TRef sig ⟨S16384x50x1000, .i32⟩) (.of main_call0_call0_call0_v163 : StableHlo.TRef sig ⟨S16384x50x1000, .i32⟩) addi
  :: StableHlo.TRef.nullary (.of main_call0_call0_call0_c_42 : StableHlo.TRef sig ⟨S_, .i32⟩) (constantI S_ 32 6#32)
  :: StableHlo.TRef.unary (.of main_call0_call0_call0_c_42 : StableHlo.TRef sig ⟨S_, .i32⟩) (.of main_call0_call0_call0_v164 : StableHlo.TRef sig ⟨S16384x50x1000, .i32⟩) (broadcastInDim S16384x50x1000 ![] bcast_S_S16384x50x1000)
  :: StableHlo.TRef.binary (.of main_call0_call0_call0_v162 : StableHlo.TRef sig ⟨S16384x50x1000, .i32⟩) (.of main_call0_call0_call0_v164 : StableHlo.TRef sig ⟨S16384x50x1000, .i32⟩) (.of main_call0_call0_call0_v165 : StableHlo.TRef sig ⟨S16384x50x1000, .i32⟩) Host.shli
  :: StableHlo.TRef.nullary (.of main_call0_call0_call0_c_43 : StableHlo.TRef sig ⟨S_, .i32⟩) (constantI S_ 32 26#32)
  :: StableHlo.TRef.unary (.of main_call0_call0_call0_c_43 : StableHlo.TRef sig ⟨S_, .i32⟩) (.of main_call0_call0_call0_v166 : StableHlo.TRef sig ⟨S16384x50x1000, .i32⟩) (broadcastInDim S16384x50x1000 ![] bcast_S_S16384x50x1000)
  :: StableHlo.TRef.binary (.of main_call0_call0_call0_v162 : StableHlo.TRef sig ⟨S16384x50x1000, .i32⟩) (.of main_call0_call0_call0_v166 : StableHlo.TRef sig ⟨S16384x50x1000, .i32⟩) (.of main_call0_call0_call0_v167 : StableHlo.TRef sig ⟨S16384x50x1000, .i32⟩) Host.shrui
  :: StableHlo.TRef.binary (.of main_call0_call0_call0_v165 : StableHlo.TRef sig ⟨S16384x50x1000, .i32⟩) (.of main_call0_call0_call0_v167 : StableHlo.TRef sig ⟨S16384x50x1000, .i32⟩) (.of main_call0_call0_call0_v168 : StableHlo.TRef sig ⟨S16384x50x1000, .i32⟩) ori
  :: StableHlo.TRef.binary (.of main_call0_call0_call0_v163 : StableHlo.TRef sig ⟨S16384x50x1000, .i32⟩) (.of main_call0_call0_call0_v168 : StableHlo.TRef sig ⟨S16384x50x1000, .i32⟩) (.of main_call0_call0_call0_v169 : StableHlo.TRef sig ⟨S16384x50x1000, .i32⟩) xori
  :: StableHlo.TRef.unary (.of main_call0_call0_call0_v1 : StableHlo.TRef sig ⟨S_, .i32⟩) (.of main_call0_call0_call0_v170 : StableHlo.TRef sig ⟨S16384x50x1000, .i32⟩) (broadcastInDim S16384x50x1000 ![] bcast_S_S16384x50x1000)
  :: StableHlo.TRef.binary (.of main_call0_call0_call0_v163 : StableHlo.TRef sig ⟨S16384x50x1000, .i32⟩) (.of main_call0_call0_call0_v170 : StableHlo.TRef sig ⟨S16384x50x1000, .i32⟩) (.of main_call0_call0_v22_0 : StableHlo.TRef sig ⟨S16384x50x1000, .i32⟩) addi
  :: StableHlo.TRef.unary (.of main_call0_call0_v4 : StableHlo.TRef sig ⟨S_, .i32⟩) (.of main_call0_call0_call0_v172 : StableHlo.TRef sig ⟨S16384x50x1000, .i32⟩) (broadcastInDim S16384x50x1000 ![] bcast_S_S16384x50x1000)
  :: StableHlo.TRef.binary (.of main_call0_call0_call0_v169 : StableHlo.TRef sig ⟨S16384x50x1000, .i32⟩) (.of main_call0_call0_call0_v172 : StableHlo.TRef sig ⟨S16384x50x1000, .i32⟩) (.of main_call0_call0_call0_v173 : StableHlo.TRef sig ⟨S16384x50x1000, .i32⟩) addi
  :: StableHlo.TRef.nullary (.of main_call0_call0_call0_c_44 : StableHlo.TRef sig ⟨S_, .i32⟩) (constantI S_ 32 5#32)
  :: StableHlo.TRef.unary (.of main_call0_call0_call0_c_44 : StableHlo.TRef sig ⟨S_, .i32⟩) (.of main_call0_call0_call0_v174 : StableHlo.TRef sig ⟨S16384x50x1000, .i32⟩) (broadcastInDim S16384x50x1000 ![] bcast_S_S16384x50x1000)
  :: StableHlo.TRef.binary (.of main_call0_call0_call0_v173 : StableHlo.TRef sig ⟨S16384x50x1000, .i32⟩) (.of main_call0_call0_call0_v174 : StableHlo.TRef sig ⟨S16384x50x1000, .i32⟩) (.of main_call0_call0_v22_1 : StableHlo.TRef sig ⟨S16384x50x1000, .i32⟩) addi
  :: StableHlo.TRef.binary main_call0_call0_call0.v171 main_call0_call0_call0.v175 (.of main_call0_call0_v23 : StableHlo.TRef sig ⟨S16384x50x1000, .i32⟩) xori
  :: StableHlo.TRef.nullary (.of main_call0_call0_c_3 : StableHlo.TRef sig ⟨S_, .i32⟩) (constantI S_ 32 9#32)
  :: StableHlo.TRef.unary (.of main_call0_call0_c_3 : StableHlo.TRef sig ⟨S_, .i32⟩) (.of main_call0_call0_v24 : StableHlo.TRef sig ⟨S16384x50x1000, .i32⟩) (broadcastInDim S16384x50x1000 ![] bcast_S_S16384x50x1000)
  :: StableHlo.TRef.binary (.of main_call0_call0_v23 : StableHlo.TRef sig ⟨S16384x50x1000, .i32⟩) (.of main_call0_call0_v24 : StableHlo.TRef sig ⟨S16384x50x1000, .i32⟩) (.of main_call0_call0_v25 : StableHlo.TRef sig ⟨S16384x50x1000, .i32⟩) Host.shrui
  :: StableHlo.TRef.nullary (.of main_call0_call0_c_4 : StableHlo.TRef sig ⟨S_, .i32⟩) (constantI S_ 32 1065353216#32)
  :: StableHlo.TRef.unary (.of main_call0_call0_c_4 : StableHlo.TRef sig ⟨S_, .i32⟩) (.of main_call0_call0_v26 : StableHlo.TRef sig ⟨S16384x50x1000, .i32⟩) (broadcastInDim S16384x50x1000 ![] bcast_S_S16384x50x1000)
  :: StableHlo.TRef.binary (.of main_call0_call0_v25 : StableHlo.TRef sig ⟨S16384x50x1000, .i32⟩) (.of main_call0_call0_v26 : StableHlo.TRef sig ⟨S16384x50x1000, .i32⟩) (.of main_call0_call0_v27 : StableHlo.TRef sig ⟨S16384x50x1000, .i32⟩) ori
  :: StableHlo.TRef.unary (.of main_call0_call0_v27 : StableHlo.TRef sig ⟨S16384x50x1000, .i32⟩) (.of main_call0_call0_v28 : StableHlo.TRef sig ⟨S16384x50x1000, .f32⟩) (bitcastToFloat .f32)
  :: StableHlo.TRef.nullary (.of main_call0_call0_cst : StableHlo.TRef sig ⟨S_, .f32⟩) (constant S_ .f32 0x3F800000#32)
  :: StableHlo.TRef.unary (.of main_call0_call0_cst : StableHlo.TRef sig ⟨S_, .f32⟩) (.of main_call0_call0_v29 : StableHlo.TRef sig ⟨S16384x50x1000, .f32⟩) (broadcastInDim S16384x50x1000 ![] bcast_S_S16384x50x1000)
  :: StableHlo.TRef.binary (.of main_call0_call0_v28 : StableHlo.TRef sig ⟨S16384x50x1000, .f32⟩) (.of main_call0_call0_v29 : StableHlo.TRef sig ⟨S16384x50x1000, .f32⟩) (.of main_call0_call0_v30 : StableHlo.TRef sig ⟨S16384x50x1000, .f32⟩) subf
  :: StableHlo.TRef.binary (.of main_call0_call0_v2 : StableHlo.TRef sig ⟨S1x1x1, .f32⟩) (.of main_call0_call0_v1 : StableHlo.TRef sig ⟨S1x1x1, .f32⟩) (.of main_call0_call0_v31 : StableHlo.TRef sig ⟨S1x1x1, .f32⟩) subf
  :: StableHlo.TRef.unary (.of main_call0_call0_v31 : StableHlo.TRef sig ⟨S1x1x1, .f32⟩) (.of main_call0_call0_v32 : StableHlo.TRef sig ⟨S16384x50x1000, .f32⟩) (broadcastInDim S16384x50x1000 ![0, 1, 2] bcast_S1x1x1_S16384x50x1000_0_1_2)
  :: StableHlo.TRef.binary (.of main_call0_call0_v30 : StableHlo.TRef sig ⟨S16384x50x1000, .f32⟩) (.of main_call0_call0_v32 : StableHlo.TRef sig ⟨S16384x50x1000, .f32⟩) (.of main_call0_call0_v33 : StableHlo.TRef sig ⟨S16384x50x1000, .f32⟩) mulf
  :: StableHlo.TRef.unary (.of main_call0_call0_v1 : StableHlo.TRef sig ⟨S1x1x1, .f32⟩) (.of main_call0_call0_v34 : StableHlo.TRef sig ⟨S16384x50x1000, .f32⟩) (broadcastInDim S16384x50x1000 ![0, 1, 2] bcast_S1x1x1_S16384x50x1000_0_1_2)
  :: StableHlo.TRef.binary (.of main_call0_call0_v33 : StableHlo.TRef sig ⟨S16384x50x1000, .f32⟩) (.of main_call0_call0_v34 : StableHlo.TRef sig ⟨S16384x50x1000, .f32⟩) (.of main_call0_call0_v35 : StableHlo.TRef sig ⟨S16384x50x1000, .f32⟩) addf
  :: StableHlo.TRef.unary (.of main_call0_call0_v1 : StableHlo.TRef sig ⟨S1x1x1, .f32⟩) (.of main_call0_call0_v36 : StableHlo.TRef sig ⟨S16384x50x1000, .f32⟩) (broadcastInDim S16384x50x1000 ![0, 1, 2] bcast_S1x1x1_S16384x50x1000_0_1_2)
  :: StableHlo.TRef.binary (.of main_call0_call0_v36 : StableHlo.TRef sig ⟨S16384x50x1000, .f32⟩) (.of main_call0_call0_v35 : StableHlo.TRef sig ⟨S16384x50x1000, .f32⟩) (.of main_call0_v0 : StableHlo.TRef sig ⟨S16384x50x1000, .f32⟩) maximumf
  :: StableHlo.TRef.unary main_call0_call0.v37 (.of main_call0_v1 : StableHlo.TRef sig ⟨S16384x50x1000, .f32⟩) Host.log
  :: StableHlo.TRef.unary (.of main_call0_v1 : StableHlo.TRef sig ⟨S16384x50x1000, .f32⟩) (.of main_call0_v2 : StableHlo.TRef sig ⟨S16384x50x1000, .f32⟩) Host.negf
  :: StableHlo.TRef.unary (.of main_call0_v2 : StableHlo.TRef sig ⟨S16384x50x1000, .f32⟩) (.of main_call0_v3 : StableHlo.TRef sig ⟨S16384x50x1000, .f32⟩) Host.log
  :: StableHlo.TRef.unary (.of main_call0_v3 : StableHlo.TRef sig ⟨S16384x50x1000, .f32⟩) (.of main_v8 : StableHlo.TRef sig ⟨S16384x50x1000, .f32⟩) Host.negf
  :: [] )
set_option maxHeartbeats 40000000 in  -- a long stretch: its list (or the term over it) exceeds the default budget

/-- Operations of the reference, in order: the scores, one per row, draw and word. -/
abbrev opsScores : List (HloOp τ sig (Elt F)) :=
  [ StableHlo.unary main_v7 main_v9 (broadcastInDim S1x1x1000 ![2] bcast_S1000_S1x1x1000_2 : (⟨S1000, .f32⟩ : BufTy).Contents (Elt F) → (⟨S1x1x1000, .f32⟩ : BufTy).Contents (Elt F)),
    StableHlo.unary main_v9 main_v10 (broadcastInDim S16384x50x1000 ![0, 1, 2] bcast_S1x1x1000_S16384x50x1000_0_1_2 : (⟨S1x1x1000, .f32⟩ : BufTy).Contents (Elt F) → (⟨S16384x50x1000, .f32⟩ : BufTy).Contents (Elt F)),
    StableHlo.binary main_v8 main_v10 main_v11 (addf : (⟨S16384x50x1000, .f32⟩ : BufTy).Contents (Elt F) → (⟨S16384x50x1000, .f32⟩ : BufTy).Contents (Elt F) → (⟨S16384x50x1000, .f32⟩ : BufTy).Contents (Elt F)) ]

/-- Operations of the reference, in order: the sampled words. -/
abbrev opsArgmax : List (HloOp τ sig (Elt F)) :=
  [ StableHlo.TRef.nullary (.of main_call1_v0 : StableHlo.TRef sig ⟨S16384x50x1000, .i32⟩) (iotaInDim S16384x50x1000 32 2),
    StableHlo.TRef.nullary (.of main_call1_cst : StableHlo.TRef sig ⟨S_, .f32⟩) (constant S_ .f32 0xFF800000#32),
    StableHlo.TRef.nullary (.of main_call1_c : StableHlo.TRef sig ⟨S_, .i32⟩) (constantI S_ 32 0#32),
    StableHlo.TRef.quaternary (.of main_v11 : StableHlo.TRef sig ⟨S16384x50x1000, .f32⟩) (.of main_call1_v0 : StableHlo.TRef sig ⟨S16384x50x1000, .i32⟩) (.of main_call1_cst : StableHlo.TRef sig ⟨S_, .f32⟩) (.of main_call1_c : StableHlo.TRef sig ⟨S_, .i32⟩) (.of main_call1_v1_0 : StableHlo.TRef sig ⟨S16384x50, .f32⟩) (fun x y u v j => (Host.argReduce reducer_argmax_f32_i32 x y u v reducesTo_S16384x50x1000_S16384x50_d2 h_S_ j).1),
    StableHlo.TRef.quaternary (.of main_v11 : StableHlo.TRef sig ⟨S16384x50x1000, .f32⟩) (.of main_call1_v0 : StableHlo.TRef sig ⟨S16384x50x1000, .i32⟩) (.of main_call1_cst : StableHlo.TRef sig ⟨S_, .f32⟩) (.of main_call1_c : StableHlo.TRef sig ⟨S_, .i32⟩) (.of main_v12 : StableHlo.TRef sig ⟨S16384x50, .i32⟩) (fun x y u v j => (Host.argReduce reducer_argmax_f32_i32 x y u v reducesTo_S16384x50x1000_S16384x50_d2 h_S_ j).2) ]

/-- Operations of the reference, in order: the words scored by each row: its target, then its samples. -/
abbrev opsIndices : List (HloOp τ sig (Elt F)) :=
  [ StableHlo.unary main_arg1 main_v13 (broadcastInDim S16384x1 ![0] bcast_S16384_S16384x1_0 : (⟨S16384, .i32⟩ : BufTy).Contents (Elt F) → (⟨S16384x1, .i32⟩ : BufTy).Contents (Elt F)),
    StableHlo.binary main_v13 main_v12 main_v14 ((fun a b => concatenate S16384x51 1 [⟨S16384x1, a⟩, ⟨S16384x50, b⟩] concatenates_S16384x1_S16384x50_S16384x51_d1) : (⟨S16384x1, .i32⟩ : BufTy).Contents (Elt F) → (⟨S16384x50, .i32⟩ : BufTy).Contents (Elt F) → (⟨S16384x51, .i32⟩ : BufTy).Contents (Elt F)) ]

/-- Operations of the reference, in order: the weight rows of those words. -/
abbrev opsRows : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16384x51, .i32⟩) (broadcastInDim S16384x51 ![] bcast_S_S16384x51),
    StableHlo.TRef.binary (.of main_v14 : StableHlo.TRef sig ⟨S16384x51, .i32⟩) (.of main_call2_v0 : StableHlo.TRef sig ⟨S16384x51, .i32⟩) (.of main_call2_v1 : StableHlo.TRef sig ⟨S16384x51, .i1⟩) (cmpi .slt),
    StableHlo.TRef.nullary (.of main_call2_c_0 : StableHlo.TRef sig ⟨S_, .i32⟩) (constantI S_ 32 1000#32),
    StableHlo.TRef.unary (.of main_call2_c_0 : StableHlo.TRef sig ⟨S_, .i32⟩) (.of main_call2_v2 : StableHlo.TRef sig ⟨S16384x51, .i32⟩) (broadcastInDim S16384x51 ![] bcast_S_S16384x51),
    StableHlo.TRef.binary (.of main_v14 : StableHlo.TRef sig ⟨S16384x51, .i32⟩) (.of main_call2_v2 : StableHlo.TRef sig ⟨S16384x51, .i32⟩) (.of main_call2_v3 : StableHlo.TRef sig ⟨S16384x51, .i32⟩) addi,
    StableHlo.TRef.ternary (.of main_call2_v1 : StableHlo.TRef sig ⟨S16384x51, .i1⟩) (.of main_call2_v3 : StableHlo.TRef sig ⟨S16384x51, .i32⟩) (.of main_v14 : StableHlo.TRef sig ⟨S16384x51, .i32⟩) (.of main_call2_v4 : StableHlo.TRef sig ⟨S16384x51, .i32⟩) select,
    StableHlo.TRef.unary (.of main_call2_v4 : StableHlo.TRef sig ⟨S16384x51, .i32⟩) (.of main_call2_v5 : StableHlo.TRef sig ⟨S16384x51x1, .i32⟩) (broadcastInDim S16384x51x1 ![0, 1] bcast_S16384x51_S16384x51x1_0_1),
    StableHlo.TRef.nullary (.of main_call2_c_1 : StableHlo.TRef sig ⟨S1, .i32⟩) (constantI S1 32 999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16384x51x1, .i32⟩) (broadcastInDim S16384x51x1 ![] bcast_S_S16384x51x1),
    StableHlo.TRef.binary (.of main_call2_v5 : StableHlo.TRef sig ⟨S16384x51x1, .i32⟩) (.of main_call2_v6 : StableHlo.TRef sig ⟨S16384x51x1, .i32⟩) (.of main_call2_v7 : StableHlo.TRef sig ⟨S16384x51x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S16384x51x1, .i32⟩) (broadcastInDim S16384x51x1 ![0, 1, 2] bcast_S1x1x1_S16384x51x1_0_1_2),
    StableHlo.TRef.binary (.of main_call2_v5 : StableHlo.TRef sig ⟨S16384x51x1, .i32⟩) (.of main_call2_v9 : StableHlo.TRef sig ⟨S16384x51x1, .i32⟩) (.of main_call2_v10 : StableHlo.TRef sig ⟨S16384x51x1, .i1⟩) (cmpi .sle),
    StableHlo.TRef.binary (.of main_call2_v7 : StableHlo.TRef sig ⟨S16384x51x1, .i1⟩) (.of main_call2_v10 : StableHlo.TRef sig ⟨S16384x51x1, .i1⟩) (.of main_call2_v11 : StableHlo.TRef sig ⟨S16384x51x1, .i1⟩) andi,
    StableHlo.TRef.nullary (.of main_call2_c_3 : StableHlo.TRef sig ⟨S_, .i1⟩) (constantI S_ 1 1#1),
    StableHlo.TRef.binary (.of main_call2_v11 : StableHlo.TRef sig ⟨S16384x51x1, .i1⟩) (.of main_call2_c_3 : StableHlo.TRef sig ⟨S_, .i1⟩) (.of main_call2_v12 : StableHlo.TRef sig ⟨S16384x51, .i1⟩) (fun x v => Host.reduce IntOp.andi x v reducesTo_S16384x51x1_S16384x51_d2 h_S_),
    StableHlo.TRef.binary (.of main_arg2 : StableHlo.TRef sig ⟨S1000x64, .f32⟩) (.of main_call2_v5 : StableHlo.TRef sig ⟨S16384x51x1, .i32⟩) (.of main_call2_v13 : StableHlo.TRef sig ⟨S16384x51x64, .f32⟩) (fun x i => Host.gather gather_S1000x64_S16384x51x1_S16384x51x64_2_0_n_n_0_2_164 x i),
    StableHlo.TRef.unary (.of main_call2_v12 : StableHlo.TRef sig ⟨S16384x51, .i1⟩) (.of main_call2_v14 : StableHlo.TRef sig ⟨S16384x51x64, .i1⟩) (broadcastInDim S16384x51x64 ![0, 1] bcast_S16384x51_S16384x51x64_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S16384x51x64, .f32⟩) (broadcastInDim S16384x51x64 ![] bcast_S_S16384x51x64),
    StableHlo.TRef.ternary (.of main_call2_v14 : StableHlo.TRef sig ⟨S16384x51x64, .i1⟩) (.of main_call2_v13 : StableHlo.TRef sig ⟨S16384x51x64, .f32⟩) (.of main_call2_v15 : StableHlo.TRef sig ⟨S16384x51x64, .f32⟩) (.of main_v15 : StableHlo.TRef sig ⟨S16384x51x64, .f32⟩) select ]

/-- Operations of the reference, in order: the biases of those words. -/
abbrev opsBias : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S16384x51, .i32⟩) (broadcastInDim S16384x51 ![] bcast_S_S16384x51),
    StableHlo.TRef.binary (.of main_v14 : StableHlo.TRef sig ⟨S16384x51, .i32⟩) (.of main_call3_v0 : StableHlo.TRef sig ⟨S16384x51, .i32⟩) (.of main_call3_v1 : StableHlo.TRef sig ⟨S16384x51, .i1⟩) (cmpi .slt),
    StableHlo.TRef.nullary (.of main_call3_c_0 : StableHlo.TRef sig ⟨S_, .i32⟩) (constantI S_ 32 1000#32),
    StableHlo.TRef.unary (.of main_call3_c_0 : StableHlo.TRef sig ⟨S_, .i32⟩) (.of main_call3_v2 : StableHlo.TRef sig ⟨S16384x51, .i32⟩) (broadcastInDim S16384x51 ![] bcast_S_S16384x51),
    StableHlo.TRef.binary (.of main_v14 : StableHlo.TRef sig ⟨S16384x51, .i32⟩) (.of main_call3_v2 : StableHlo.TRef sig ⟨S16384x51, .i32⟩) (.of main_call3_v3 : StableHlo.TRef sig ⟨S16384x51, .i32⟩) addi,
    StableHlo.TRef.ternary (.of main_call3_v1 : StableHlo.TRef sig ⟨S16384x51, .i1⟩) (.of main_call3_v3 : StableHlo.TRef sig ⟨S16384x51, .i32⟩) (.of main_v14 : StableHlo.TRef sig ⟨S16384x51, .i32⟩) (.of main_call3_v4 : StableHlo.TRef sig ⟨S16384x51, .i32⟩) select,
    StableHlo.TRef.unary (.of main_call3_v4 : StableHlo.TRef sig ⟨S16384x51, .i32⟩) (.of main_call3_v5 : StableHlo.TRef sig ⟨S16384x51x1, .i32⟩) (broadcastInDim S16384x51x1 ![0, 1] bcast_S16384x51_S16384x51x1_0_1),
    StableHlo.TRef.nullary (.of main_call3_c_1 : StableHlo.TRef sig ⟨S1, .i32⟩) (constantI S1 32 999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S16384x51x1, .i32⟩) (broadcastInDim S16384x51x1 ![] bcast_S_S16384x51x1),
    StableHlo.TRef.binary (.of main_call3_v5 : StableHlo.TRef sig ⟨S16384x51x1, .i32⟩) (.of main_call3_v6 : StableHlo.TRef sig ⟨S16384x51x1, .i32⟩) (.of main_call3_v7 : StableHlo.TRef sig ⟨S16384x51x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S16384x51x1, .i32⟩) (broadcastInDim S16384x51x1 ![0, 1, 2] bcast_S1x1x1_S16384x51x1_0_1_2),
    StableHlo.TRef.binary (.of main_call3_v5 : StableHlo.TRef sig ⟨S16384x51x1, .i32⟩) (.of main_call3_v9 : StableHlo.TRef sig ⟨S16384x51x1, .i32⟩) (.of main_call3_v10 : StableHlo.TRef sig ⟨S16384x51x1, .i1⟩) (cmpi .sle),
    StableHlo.TRef.binary (.of main_call3_v7 : StableHlo.TRef sig ⟨S16384x51x1, .i1⟩) (.of main_call3_v10 : StableHlo.TRef sig ⟨S16384x51x1, .i1⟩) (.of main_call3_v11 : StableHlo.TRef sig ⟨S16384x51x1, .i1⟩) andi,
    StableHlo.TRef.nullary (.of main_call3_c_3 : StableHlo.TRef sig ⟨S_, .i1⟩) (constantI S_ 1 1#1),
    StableHlo.TRef.binary (.of main_call3_v11 : StableHlo.TRef sig ⟨S16384x51x1, .i1⟩) (.of main_call3_c_3 : StableHlo.TRef sig ⟨S_, .i1⟩) (.of main_call3_v12 : StableHlo.TRef sig ⟨S16384x51, .i1⟩) (fun x v => Host.reduce IntOp.andi x v reducesTo_S16384x51x1_S16384x51_d2 h_S_),
    StableHlo.TRef.binary (.of main_arg3 : StableHlo.TRef sig ⟨S1000, .f32⟩) (.of main_call3_v5 : StableHlo.TRef sig ⟨S16384x51x1, .i32⟩) (.of main_call3_v13 : StableHlo.TRef sig ⟨S16384x51, .f32⟩) (fun x i => Host.gather gather_S1000_S16384x51x1_S16384x51_n_0_n_n_0_2_1 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S16384x51, .f32⟩) (broadcastInDim S16384x51 ![] bcast_S_S16384x51),
    StableHlo.TRef.ternary (.of main_call3_v12 : StableHlo.TRef sig ⟨S16384x51, .i1⟩) (.of main_call3_v13 : StableHlo.TRef sig ⟨S16384x51, .f32⟩) (.of main_call3_v14 : StableHlo.TRef sig ⟨S16384x51, .f32⟩) (.of main_v16 : StableHlo.TRef sig ⟨S16384x51, .f32⟩) select ]

/-- Operations of the reference, in order: the logits and their exponentials. -/
abbrev opsLogits : List (HloOp τ sig (Elt F)) :=
  [ StableHlo.binary main_v15 main_arg0 main_v17 ((fun l r => Host.dotGeneral dot_S16384x51x64_S16384x64_S16384x51_2_1_1_n_0_0 none l r) : (⟨S16384x51x64, .f32⟩ : BufTy).Contents (Elt F) → (⟨S16384x64, .f32⟩ : BufTy).Contents (Elt F) → (⟨S16384x51, .f32⟩ : BufTy).Contents (Elt F)),
    StableHlo.binary main_v17 main_v16 main_v18 (addf : (⟨S16384x51, .f32⟩ : BufTy).Contents (Elt F) → (⟨S16384x51, .f32⟩ : BufTy).Contents (Elt F) → (⟨S16384x51, .f32⟩ : BufTy).Contents (Elt F)),
    StableHlo.nullary main_cst (constant S_ .f32 0x41100000#32),
    StableHlo.unary main_cst main_v19 (broadcastInDim S16384x51 ![] bcast_S_S16384x51 : (⟨S_, .f32⟩ : BufTy).Contents (Elt F) → (⟨S16384x51, .f32⟩ : BufTy).Contents (Elt F)),
    StableHlo.binary main_v18 main_v19 main_v20 (subf : (⟨S16384x51, .f32⟩ : BufTy).Contents (Elt F) → (⟨S16384x51, .f32⟩ : BufTy).Contents (Elt F) → (⟨S16384x51, .f32⟩ : BufTy).Contents (Elt F)),
    StableHlo.unary main_v20 main_v21 (Host.exp : (⟨S16384x51, .f32⟩ : BufTy).Contents (Elt F) → (⟨S16384x51, .f32⟩ : BufTy).Contents (Elt F)),
    StableHlo.unary main_v21 main_v22 ((extractStridedSlice S16384x1 ![0, 0] · slices_S16384x51_S16384x1_0_0) : (⟨S16384x51, .f32⟩ : BufTy).Contents (Elt F) → (⟨S16384x1, .f32⟩ : BufTy).Contents (Elt F)),
    StableHlo.reshape main_v22 main_v23 (rfl : (.f32 : EltTy) = .f32) shapeCasts_S16384x1_S16384,
    StableHlo.unary main_v21 main_v24 ((extractStridedSlice S16384x50 ![0, 1] · slices_S16384x51_S16384x50_0_1) : (⟨S16384x51, .f32⟩ : BufTy).Contents (Elt F) → (⟨S16384x50, .f32⟩ : BufTy).Contents (Elt F)) ]

/-- Operations of the reference, in order: the noise weights of the sampled words. -/
abbrev opsNoise : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S16384x50, .i32⟩) (broadcastInDim S16384x50 ![] bcast_S_S16384x50),
    StableHlo.TRef.binary (.of main_v12 : StableHlo.TRef sig ⟨S16384x50, .i32⟩) (.of main_call4_v0 : StableHlo.TRef sig ⟨S16384x50, .i32⟩) (.of main_call4_v1 : StableHlo.TRef sig ⟨S16384x50, .i1⟩) (cmpi .slt),
    StableHlo.TRef.nullary (.of main_call4_c_0 : StableHlo.TRef sig ⟨S_, .i32⟩) (constantI S_ 32 1000#32),
    StableHlo.TRef.unary (.of main_call4_c_0 : StableHlo.TRef sig ⟨S_, .i32⟩) (.of main_call4_v2 : StableHlo.TRef sig ⟨S16384x50, .i32⟩) (broadcastInDim S16384x50 ![] bcast_S_S16384x50),
    StableHlo.TRef.binary (.of main_v12 : StableHlo.TRef sig ⟨S16384x50, .i32⟩) (.of main_call4_v2 : StableHlo.TRef sig ⟨S16384x50, .i32⟩) (.of main_call4_v3 : StableHlo.TRef sig ⟨S16384x50, .i32⟩) addi,
    StableHlo.TRef.ternary (.of main_call4_v1 : StableHlo.TRef sig ⟨S16384x50, .i1⟩) (.of main_call4_v3 : StableHlo.TRef sig ⟨S16384x50, .i32⟩) (.of main_v12 : StableHlo.TRef sig ⟨S16384x50, .i32⟩) (.of main_call4_v4 : StableHlo.TRef sig ⟨S16384x50, .i32⟩) select,
    StableHlo.TRef.unary (.of main_call4_v4 : StableHlo.TRef sig ⟨S16384x50, .i32⟩) (.of main_call4_v5 : StableHlo.TRef sig ⟨S16384x50x1, .i32⟩) (broadcastInDim S16384x50x1 ![0, 1] bcast_S16384x50_S16384x50x1_0_1),
    StableHlo.TRef.nullary (.of main_call4_c_1 : StableHlo.TRef sig ⟨S1, .i32⟩) (constantI S1 32 999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S16384x50x1, .i32⟩) (broadcastInDim S16384x50x1 ![] bcast_S_S16384x50x1),
    StableHlo.TRef.binary (.of main_call4_v5 : StableHlo.TRef sig ⟨S16384x50x1, .i32⟩) (.of main_call4_v6 : StableHlo.TRef sig ⟨S16384x50x1, .i32⟩) (.of main_call4_v7 : StableHlo.TRef sig ⟨S16384x50x1, .i1⟩) (cmpi .sge),
    StableHlo.TRef.unary (.of main_call4_c_1 : StableHlo.TRef sig ⟨S1, .i32⟩) (.of main_call4_v8 : StableHlo.TRef sig ⟨S1x1x1, .i32⟩) (broadcastInDim S1x1x1 ![2] bcast_S1_S1x1x1_2),
    StableHlo.TRef.unary (.of main_call4_v8 : StableHlo.TRef sig ⟨S1x1x1, .i32⟩) (.of main_call4_v9 : StableHlo.TRef sig ⟨S16384x50x1, .i32⟩) (broadcastInDim S16384x50x1 ![0, 1, 2] bcast_S1x1x1_S16384x50x1_0_1_2),
    StableHlo.TRef.binary (.of main_call4_v5 : StableHlo.TRef sig ⟨S16384x50x1, .i32⟩) (.of main_call4_v9 : StableHlo.TRef sig ⟨S16384x50x1, .i32⟩) (.of main_call4_v10 : StableHlo.TRef sig ⟨S16384x50x1, .i1⟩) (cmpi .sle),
    StableHlo.TRef.binary (.of main_call4_v7 : StableHlo.TRef sig ⟨S16384x50x1, .i1⟩) (.of main_call4_v10 : StableHlo.TRef sig ⟨S16384x50x1, .i1⟩) (.of main_call4_v11 : StableHlo.TRef sig ⟨S16384x50x1, .i1⟩) andi,
    StableHlo.TRef.nullary (.of main_call4_c_3 : StableHlo.TRef sig ⟨S_, .i1⟩) (constantI S_ 1 1#1),
    StableHlo.TRef.binary (.of main_call4_v11 : StableHlo.TRef sig ⟨S16384x50x1, .i1⟩) (.of main_call4_c_3 : StableHlo.TRef sig ⟨S_, .i1⟩) (.of main_call4_v12 : StableHlo.TRef sig ⟨S16384x50, .i1⟩) (fun x v => Host.reduce IntOp.andi x v reducesTo_S16384x50x1_S16384x50_d2 h_S_),
    StableHlo.TRef.binary (.of main_arg4 : StableHlo.TRef sig ⟨S1000, .f32⟩) (.of main_call4_v5 : StableHlo.TRef sig ⟨S16384x50x1, .i32⟩) (.of main_call4_v13 : StableHlo.TRef sig ⟨S16384x50, .f32⟩) (fun x i => Host.gather gather_S1000_S16384x50x1_S16384x50_n_0_n_n_0_2_1 x i),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S16384x50, .f32⟩) (broadcastInDim S16384x50 ![] bcast_S_S16384x50),
    StableHlo.TRef.ternary (.of main_call4_v12 : StableHlo.TRef sig ⟨S16384x50, .i1⟩) (.of main_call4_v13 : StableHlo.TRef sig ⟨S16384x50, .f32⟩) (.of main_call4_v14 : StableHlo.TRef sig ⟨S16384x50, .f32⟩) (.of main_v25 : StableHlo.TRef sig ⟨S16384x50, .f32⟩) select ]

/-- Operations of the reference, in order: the noise weights of the target words. -/
abbrev opsNoiseTarget : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S16384, .i32⟩) (broadcastInDim S16384 ![] bcast_S_S16384),
    StableHlo.TRef.binary (.of main_arg1 : StableHlo.TRef sig ⟨S16384, .i32⟩) (.of main_call5_v0 : StableHlo.TRef sig ⟨S16384, .i32⟩) (.of main_call5_v1 : StableHlo.TRef sig ⟨S16384, .i1⟩) (cmpi .slt),
    StableHlo.TRef.nullary (.of main_call5_c_0 : StableHlo.TRef sig ⟨S_, .i32⟩) (constantI S_ 32 1000#32),
    StableHlo.TRef.unary (.of main_call5_c_0 : StableHlo.TRef sig ⟨S_, .i32⟩) (.of main_call5_v2 : StableHlo.TRef sig ⟨S16384, .i32⟩) (broadcastInDim S16384 ![] bcast_S_S16384),
    StableHlo.TRef.binary (.of main_arg1 : StableHlo.TRef sig ⟨S16384, .i32⟩) (.of main_call5_v2 : StableHlo.TRef sig ⟨S16384, .i32⟩) (.of main_call5_v3 : StableHlo.TRef sig ⟨S16384, .i32⟩) addi,
    StableHlo.TRef.ternary (.of main_call5_v1 : StableHlo.TRef sig ⟨S16384, .i1⟩) (.of main_call5_v3 : StableHlo.TRef sig ⟨S16384, .i32⟩) (.of main_arg1 : StableHlo.TRef sig ⟨S16384, .i32⟩) (.of main_call5_v4 : StableHlo.TRef sig ⟨S16384, .i32⟩) select,
    StableHlo.TRef.unary (.of main_call5_v4 : StableHlo.TRef sig ⟨S16384, .i32⟩) (.of main_call5_v5 : StableHlo.TRef sig ⟨S16384x1, .i32⟩) (broadcastInDim S16384x1 ![0] bcast_S16384_S16384x1_0),
    StableHlo.TRef.nullary (.of main_call5_c_1 : StableHlo.TRef sig ⟨S1, .i32⟩) (constantI S1 32 999#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S16384x1, .i32⟩) (broadcastInDim S16384x1 ![] bcast_S_S16384x1),
    StableHlo.TRef.binary (.of main_call5_v5 : StableHlo.TRef sig ⟨S16384x1, .i32⟩) (.of main_call5_v6 : StableHlo.TRef sig ⟨S16384x1, .i32⟩) (.of main_call5_v7 : StableHlo.TRef sig ⟨S16384x1, .i1⟩) (cmpi .sge),
    StableHlo.TRef.unary (.of main_call5_c_1 : StableHlo.TRef sig ⟨S1, .i32⟩) (.of main_call5_v8 : StableHlo.TRef sig ⟨S1x1, .i32⟩) (broadcastInDim S1x1 ![1] bcast_S1_S1x1_1),
    StableHlo.TRef.unary (.of main_call5_v8 : StableHlo.TRef sig ⟨S1x1, .i32⟩) (.of main_call5_v9 : StableHlo.TRef sig ⟨S16384x1, .i32⟩) (broadcastInDim S16384x1 ![0, 1] bcast_S1x1_S16384x1_0_1),
    StableHlo.TRef.binary (.of main_call5_v5 : StableHlo.TRef sig ⟨S16384x1, .i32⟩) (.of main_call5_v9 : StableHlo.TRef sig ⟨S16384x1, .i32⟩) (.of main_call5_v10 : StableHlo.TRef sig ⟨S16384x1, .i1⟩) (cmpi .sle),
    StableHlo.TRef.binary (.of main_call5_v7 : StableHlo.TRef sig ⟨S16384x1, .i1⟩) (.of main_call5_v10 : StableHlo.TRef sig ⟨S16384x1, .i1⟩) (.of main_call5_v11 : StableHlo.TRef sig ⟨S16384x1, .i1⟩) andi,
    StableHlo.TRef.nullary (.of main_call5_c_3 : StableHlo.TRef sig ⟨S_, .i1⟩) (constantI S_ 1 1#1),
    StableHlo.TRef.binary (.of main_call5_v11 : StableHlo.TRef sig ⟨S16384x1, .i1⟩) (.of main_call5_c_3 : StableHlo.TRef sig ⟨S_, .i1⟩) (.of main_call5_v12 : StableHlo.TRef sig ⟨S16384, .i1⟩) (fun x v => Host.reduce IntOp.andi x v reducesTo_S16384x1_S16384_d1 h_S_),
    StableHlo.TRef.binary (.of main_arg4 : StableHlo.TRef sig ⟨S1000, .f32⟩) (.of main_call5_v5 : StableHlo.TRef sig ⟨S16384x1, .i32⟩) (.of main_call5_v13 : StableHlo.TRef sig ⟨S16384, .f32⟩) (fun x i => Host.gather gather_S1000_S16384x1_S16384_n_0_n_n_0_1_1 x i),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v14 : StableHlo.TRef sig ⟨S16384, .f32⟩) (broadcastInDim S16384 ![] bcast_S_S16384),
    StableHlo.TRef.ternary (.of main_call5_v12 : StableHlo.TRef sig ⟨S16384, .i1⟩) (.of main_call5_v13 : StableHlo.TRef sig ⟨S16384, .f32⟩) (.of main_call5_v14 : StableHlo.TRef sig ⟨S16384, .f32⟩) (.of main_v26 : StableHlo.TRef sig ⟨S16384, .f32⟩) select ]

/-- Operations of the reference, in order: the loss. -/
abbrev opsLoss : List (HloOp τ sig (Elt F)) :=
  [ StableHlo.nullary main_cst_2 (constant S_ .f32 0x42480000#32),
    StableHlo.unary main_cst_2 main_v27 (broadcastInDim S16384 ![] bcast_S_S16384 : (⟨S_, .f32⟩ : BufTy).Contents (Elt F) → (⟨S16384, .f32⟩ : BufTy).Contents (Elt F)),
    StableHlo.binary main_v27 main_v26 main_v28 (mulf : (⟨S16384, .f32⟩ : BufTy).Contents (Elt F) → (⟨S16384, .f32⟩ : BufTy).Contents (Elt F) → (⟨S16384, .f32⟩ : BufTy).Contents (Elt F)),
    StableHlo.binary main_v23 main_v28 main_v29 (addf : (⟨S16384, .f32⟩ : BufTy).Contents (Elt F) → (⟨S16384, .f32⟩ : BufTy).Contents (Elt F) → (⟨S16384, .f32⟩ : BufTy).Contents (Elt F)),
    StableHlo.binary main_v23 main_v29 main_v30 (Host.divf : (⟨S16384, .f32⟩ : BufTy).Contents (Elt F) → (⟨S16384, .f32⟩ : BufTy).Contents (Elt F) → (⟨S16384, .f32⟩ : BufTy).Contents (Elt F)),
    StableHlo.unary main_v30 main_v31 (Host.log : (⟨S16384, .f32⟩ : BufTy).Contents (Elt F) → (⟨S16384, .f32⟩ : BufTy).Contents (Elt F)),
    StableHlo.nullary main_cst_3 (constant S_ .f32 0x42480000#32),
    StableHlo.unary main_cst_3 main_v32 (broadcastInDim S16384x50 ![] bcast_S_S16384x50 : (⟨S_, .f32⟩ : BufTy).Contents (Elt F) → (⟨S16384x50, .f32⟩ : BufTy).Contents (Elt F)),
    StableHlo.binary main_v32 main_v25 main_v33 (mulf : (⟨S16384x50, .f32⟩ : BufTy).Contents (Elt F) → (⟨S16384x50, .f32⟩ : BufTy).Contents (Elt F) → (⟨S16384x50, .f32⟩ : BufTy).Contents (Elt F)),
    StableHlo.nullary main_cst_4 (constant S_ .f32 0x42480000#32),
    StableHlo.unary main_cst_4 main_v34 (broadcastInDim S16384x50 ![] bcast_S_S16384x50 : (⟨S_, .f32⟩ : BufTy).Contents (Elt F) → (⟨S16384x50, .f32⟩ : BufTy).Contents (Elt F)),
    StableHlo.binary main_v34 main_v25 main_v35 (mulf : (⟨S16384x50, .f32⟩ : BufTy).Contents (Elt F) → (⟨S16384x50, .f32⟩ : BufTy).Contents (Elt F) → (⟨S16384x50, .f32⟩ : BufTy).Contents (Elt F)),
    StableHlo.binary main_v24 main_v35 main_v36 (addf : (⟨S16384x50, .f32⟩ : BufTy).Contents (Elt F) → (⟨S16384x50, .f32⟩ : BufTy).Contents (Elt F) → (⟨S16384x50, .f32⟩ : BufTy).Contents (Elt F)),
    StableHlo.binary main_v33 main_v36 main_v37 (Host.divf : (⟨S16384x50, .f32⟩ : BufTy).Contents (Elt F) → (⟨S16384x50, .f32⟩ : BufTy).Contents (Elt F) → (⟨S16384x50, .f32⟩ : BufTy).Contents (Elt F)),
    StableHlo.unary main_v37 main_v38 (Host.log : (⟨S16384x50, .f32⟩ : BufTy).Contents (Elt F) → (⟨S16384x50, .f32⟩ : BufTy).Contents (Elt F)),
    StableHlo.nullary main_cst_5 (constant S_ .f32 0x00000000#32),
    StableHlo.binary main_v38 main_cst_5 main_v39 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.binary main_v31 main_v39 main_v40 (addf : (⟨S16384, .f32⟩ : BufTy).Contents (Elt F) → (⟨S16384, .f32⟩ : BufTy).Contents (Elt F) → (⟨S16384, .f32⟩ : BufTy).Contents (Elt F)),
    StableHlo.nullary main_cst_6 (constant S_ .f32 0x00000000#32),
    StableHlo.binary main_v40 main_cst_6 main_v41 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_7 (constant S_ .f32 0xBF800000#32),
    StableHlo.binary main_cst_7 main_v41 main_v42 (mulf : (⟨S_, .f32⟩ : BufTy).Contents (Elt F) → (⟨S_, .f32⟩ : BufTy).Contents (Elt F) → (⟨S_, .f32⟩ : BufTy).Contents (Elt F)),
    StableHlo.nullary main_cst_8 (constant S_ .f32 0x46800000#32),
    StableHlo.binary main_v42 main_cst_8 main_v43 (Host.divf : (⟨S_, .f32⟩ : BufTy).Contents (Elt F) → (⟨S_, .f32⟩ : BufTy).Contents (Elt F) → (⟨S_, .f32⟩ : BufTy).Contents (Elt F)) ]

/-- The whole line. -/
def ops : List (HloOp τ sig (Elt F)) :=
  opsKey ++ (opsGumbel ++ (opsScores ++ (opsArgmax ++ (opsIndices ++ (opsRows ++ (opsBias ++ (opsLogits ++ (opsNoise ++ (opsNoiseTarget ++ (opsLoss))))))))))

theorem main_chain (c : Dev nD) : main (F := F) c = (Pipeline.chain
    [ StableHlo.seq opsKey,
      StableHlo.seq opsGumbel,
      StableHlo.seq opsScores,
      StableHlo.seq opsArgmax,
      StableHlo.seq opsIndices,
      StableHlo.seq opsRows,
      StableHlo.seq opsBias,
      StableHlo.seq opsLogits,
      StableHlo.seq opsNoise,
      StableHlo.seq opsNoiseTarget,
      StableHlo.seq opsLoss ] : Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons, StableHlo.chain_seq_cons, Pipeline.chain_cons, Pipeline.chain_cons, StableHlo.chain_seq_cons, Pipeline.chain_cons, Pipeline.chain_cons, StableHlo.chain_seq_cons]
  chain_rfl

/-- The reference's main function runs the line. -/
theorem main_eq (c : Dev nD) : main (F := F) c = StableHlo.seq ops := by
  rw [main_chain]
  simp only [ops, StableHlo.seq_append, Pipeline.chain_cons, Pipeline.chain_nil, bind_pure_unit]

end Cert.ReferenceIdeal.Line

end
-- ==== Proof.Take.lean ====
/- Entries taken from a table at the numbers of words: the checks that jax makes of an index all pass there. -/
module

public import proofs.«01_k».proof.Proof.RefLine
public import Idealize.ShloMosaic.Lib.Pointwise
public import Idealize.ShloMosaic.Lib.ValueIdxCore
public import Idealize.ShloMosaic.Lib.Routing.OpsSet
public import Idealize.ShloMosaic.Lib.Pipeline.Value

@[expose] public section

noncomputable section

namespace Cert.Take

open Idealize.ShloMosaic Idealize.ShloMosaic.Pointwise

theorem toInt_word (w : Fin 1000) : (BitVec.ofNat 32 w.val).toInt = w.val := by
  have := w.isLt
  rw [BitVec.toInt_eq_toNat_of_lt] <;> simp only [BitVec.toNat_ofNat] <;> omega

/-- A word's number is not negative, so it is not counted from the table's end. -/
theorem wrap_apply {s : Shape} (i z c : IVec s 32) (j : s.Idx) (w : Fin 1000) (hi : i j = BitVec.ofNat 32 w.val) (hz : z j = 0#32) :
    select (cmpi .slt i z) (addi i c) i j = BitVec.ofNat 32 w.val := by
  have h : IntOp.cmpi .slt (i j) (z j) = 0#1 := by
    rw [hi, hz]
    have : decide ((w.val : Int) < 0) = false := decide_eq_false (by omega)
    simp only [IntOp.cmpi, BitVec.slt, toInt_word, BitVec.toInt_zero]
    rw [this]; rfl
  show Scalar.select (IntOp.cmpi .slt (i j) (z j)) _ (i j) = _
  rw [h, hi]
  rfl

/-- A word's number passes the check of the table's bounds. -/
theorem bounds_apply {s : Shape} (i z t : IVec s 32) (j : s.Idx) (w : Fin 1000) (hi : i j = BitVec.ofNat 32 w.val) (hz : z j = 0#32)
    (ht : t j = 999#32) : andi (cmpi .sge i z) (cmpi .sle i t) j = 1#1 := by
  show IntOp.andi (IntOp.cmpi .sge (i j) (z j)) (IntOp.cmpi .sle (i j) (t j)) = 1#1
  rw [hi, hz, ht]
  have := w.isLt
  have e : (999#32).toInt = 999 := by decide
  have h0 : (0#32).toInt = 0 := by decide
  have h1 : IntOp.cmpi .sge (BitVec.ofNat 32 w.val) 0#32 = 1#1 := by
    simp [IntOp.cmpi, BitVec.sle, toInt_word]
  have h2 : IntOp.cmpi .sle (BitVec.ofNat 32 w.val) 999#32 = 1#1 := by
    simp only [IntOp.cmpi, BitVec.sle, toInt_word, e]
    have : decide ((w.val : Int) ≤ 999) = true := decide_eq_true (by omega)
    rw [this]; rfl
  rw [h1, h2]
  rfl

/-- The conjunction of checks that all pass is passed. -/
theorem all_apply {s t u : Shape} {axes : List (Fin s.rank)} (x : IVec s 1) (v : IVec u 1) (h : s.ReducesTo axes t) (hu : 0 < u.numel)
    (hx : ∀ i, x i = 1#1) (hv : ∀ i, v i = 1#1) (j : t.Idx) : Host.reduce IntOp.andi x v h hu j = 1#1 := by
  unfold Host.reduce
  rw [hv]
  generalize (List.finRange s.numel).filter _ = l
  induction l with
  | nil => rfl
  | cons n l ih =>
    rw [List.foldl_cons, hx]
    exact ih

theorem column_apply (t : IVec ⟨1, ![16384]⟩ 32)
    (h : (⟨1, ![16384]⟩ : Shape).BroadcastsInDim ⟨2, ![16384, 1]⟩ (![0] : Fin 1 → Fin 2)) (n : Fin 16384) :
    broadcastInDim ⟨2, ![16384, 1]⟩ ![0] h t (ix2 n (0 : Fin 1)) = t (ix1 n) := by
  pointwise []

/-- Each row's words: its target and then its samples. -/
theorem words_apply (t : IVec ⟨1, ![16384]⟩ 32) (a : IVec ⟨2, ![16384, 1]⟩ 32) (v : IVec ⟨2, ![16384, 50]⟩ 32)
    (h : Shape.Concatenates [⟨2, ![16384, 1]⟩, ⟨2, ![16384, 50]⟩] ⟨2, ![16384, 51]⟩ 1) (wd : Fin 16384 → Fin 51 → Fin 1000)
    (ha : ∀ n, a (ix2 n (0 : Fin 1)) = t (ix1 n)) (ht : ∀ n, t (ix1 n) = BitVec.ofNat 32 (wd n 0).val)
    (hv : ∀ n (i : Fin 50), v (ix2 n i) = BitVec.ofNat 32 (wd n i.succ).val) (n : Fin 16384) (k : Fin 51) :
    concatenate ⟨2, ![16384, 51]⟩ 1 [⟨⟨2, ![16384, 1]⟩, a⟩, ⟨⟨2, ![16384, 50]⟩, v⟩] h (ix2 n k) = BitVec.ofNat 32 (wd n k).val := by
  induction k using Fin.cases with
  | zero =>
    rw [concatenate_pair_apply_left 1 a v h (ix2 n (0 : Fin 51)) rfl (ix2 n (0 : Fin 1)) (fun b => ?_), ha, ht]
    match b with
    | ⟨0, _⟩ => rfl
    | ⟨1, _⟩ => rfl
  | succ i =>
    rw [concatenate_pair_apply_right 1 a v h (ix2 n i.succ) rfl rfl (ix2 n i) (fun b hb => ?_) rfl, hv]
    match b, hb with
    | ⟨0, _⟩, _ => rfl
    | ⟨1, _⟩, hb => exact absurd rfl hb

section Gather

variable {α : Type}

/-- An entry of a vector at a word, from a matrix of words. -/
theorem gather_entry {R C : Nat} (wf : GatherDims.WF ⟨1, ![1000]⟩ ⟨3, ![R, C, 1]⟩ ⟨2, ![R, C]⟩ [] [0] [] [0] [] 2 ![1])
    (x : (⟨1, ![1000]⟩ : Shape).Idx → α) (idx : IVec ⟨3, ![R, C, 1]⟩ 32) (n : Fin R) (k : Fin C) (w : Fin 1000)
    (hi : idx (ix3 n k (0 : Fin 1)) = BitVec.ofNat 32 w.val) :
    Host.gather (ValueIdx.takeDims 1000 R C wf) x idx (ix2 n k) = x (ix1 w) := by
  rw [ValueIdx.gather_take_apply (by decide)]
  have e : ValueIdx.takeIdx (ix2 n k) = ix3 n k (0 : Fin 1) := by
    funext a
    match a with
    | ⟨0, _⟩ => rfl
    | ⟨1, _⟩ => rfl
    | ⟨2, _⟩ => rfl
  have := w.isLt
  refine congrArg x (funext fun a => ?_)
  match a with
  | ⟨0, _⟩ =>
    refine Fin.ext ?_
    show min (idx (ValueIdx.takeIdx (ix2 n k))).toInt.toNat (1000 - 1) = w.val
    rw [e, hi, toInt_word]
    omega

/-- The dimension numbers of the rows of a table at a matrix of words. -/
abbrev rowDims (N E R C : Nat) (wf : GatherDims.WF ⟨2, ![N, E]⟩ ⟨3, ![R, C, 1]⟩ ⟨3, ![R, C, E]⟩ [2] [0] [] [0] [] 2 ![1, E]) :
    GatherDims ⟨2, ![N, E]⟩ ⟨3, ![R, C, 1]⟩ ⟨3, ![R, C, E]⟩ where
  offsetDims := [2]
  collapsedSliceDims := [0]
  operandBatchingDims := []
  startIndicesBatchingDims := []
  startIndexMap := [0]
  indexVectorDim := 2
  sliceSizes := ![1, E]
  wf := wf

/-- An entry of a table's row at a word, from a matrix of words. -/
theorem gather_row {E R C : Nat} (wf : GatherDims.WF ⟨2, ![1000, E]⟩ ⟨3, ![R, C, 1]⟩ ⟨3, ![R, C, E]⟩ [2] [0] [] [0] [] 2 ![1, E])
    (x : (⟨2, ![1000, E]⟩ : Shape).Idx → α) (idx : IVec ⟨3, ![R, C, 1]⟩ 32) (n : Fin R) (k : Fin C) (e : Fin E) (w : Fin 1000)
    (hi : idx (ix3 n k (0 : Fin 1)) = BitVec.ofNat 32 w.val) :
    Host.gather (rowDims 1000 E R C wf) x idx (ix3 n k e) = x (ix2 w e) := by
  unfold Host.gather
  have hw := w.isLt
  refine congrArg x (funext fun a => Fin.ext ?_)
  show (rowDims 1000 E R C wf).start (ix3 n k e) idx a + (rowDims 1000 E R C wf).batchCoord (ix3 n k e) a
    + (rowDims 1000 E R C wf).offCoord (ix3 n k e) a = _
  rw [GatherDims.batchCoord_eq_zero _ _ _ List.not_mem_nil]
  match a with
  | ⟨0, _⟩ =>
    have hk : (0 : Fin 2) ∉ (rowDims 1000 E R C wf).sKept := fun h =>
      ((GatherDims.mem_sKept _ _).mp h).1 (List.mem_singleton.mpr rfl)
    have hm : (0 : Fin 2) ∈ (rowDims 1000 E R C wf).startIndexMap := List.mem_singleton.mpr rfl
    have hs : (rowDims 1000 E R C wf).siIdx (ix3 n k e) ⟨List.idxOf (0 : Fin 2) (rowDims 1000 E R C wf).startIndexMap,
        List.idxOf_lt_length_iff.2 hm⟩ = ix3 n k (0 : Fin 1) := by
      funext b
      match b with
      | ⟨0, _⟩ => rfl
      | ⟨1, _⟩ => rfl
      | ⟨2, _⟩ => rfl
    show (rowDims 1000 E R C wf).start (ix3 n k e) idx 0 + 0 + (rowDims 1000 E R C wf).offCoord (ix3 n k e) 0 = w.val
    rw [GatherDims.offCoord_eq_zero _ _ _ hk]
    unfold GatherDims.start
    rw [dif_pos hm, hs, hi, toInt_word]
    show min w.val (1000 - 1) + 0 + 0 = w.val
    omega
  | ⟨1, _⟩ =>
    have hm : (1 : Fin 2) ∉ (rowDims 1000 E R C wf).startIndexMap := by simp
    show (rowDims 1000 E R C wf).start (ix3 n k e) idx 1 + 0 + (rowDims 1000 E R C wf).offCoord (ix3 n k e) 1 = e.val
    unfold GatherDims.start
    rw [dif_neg hm, Nat.zero_add]
    rfl

end Gather

end Cert.Take

end
-- ==== Proof.KValue.lean ====
/- The kernel's result as the mean loss of its rows. -/
module

public import proofs.«01_k».proof.Proof.KTotal
public import proofs.«01_k».proof.Proof.Take

@[expose] public section

noncomputable section

namespace Cert.KernelIdeal.Block

open Cert.KernelIdeal Cert.KernelIdeal.Gen Cert.KernelIdeal.Value Idealize.ShloMosaic Idealize.ShloMosaic.TcCoe Idealize.SL.Sem
open Idealize.ShloMosaic.Pointwise

section Drawn

variable {F : FTy → Type} [FloatOps F]
variable (m : (ℓ : Loc nD τ sig) → Buf (Elt F) ℓ) (c : Dev nD)

/-- The draw leaves the target words as they are. -/
theorem drawn_arg1 : drawn m c (Proc.devRef .tc main_arg1) = m ((c.tc : Thread nD τ).loc main_arg1) := by
  refine Eq.trans ?_ (V_main_arg1 m c)
  unfold V
  rw [V0_eq]
  unfold hostOps0_4
  after_results

theorem drawn_arg2 : drawn m c (Proc.devRef .tc main_arg2) = m ((c.tc : Thread nD τ).loc main_arg2) := by
  refine Eq.trans ?_ (V_main_arg2 m c)
  unfold V
  rw [V0_eq]
  unfold hostOps0_4
  after_results

theorem drawn_arg3 : drawn m c (Proc.devRef .tc main_arg3) = m ((c.tc : Thread nD τ).loc main_arg3) := by
  refine Eq.trans ?_ (V_main_arg3 m c)
  unfold V
  rw [V0_eq]
  unfold hostOps0_4
  after_results

theorem drawn_arg4 : drawn m c (Proc.devRef .tc main_arg4) = m ((c.tc : Thread nD τ).loc main_arg4) := by
  refine Eq.trans ?_ (V_main_arg4 m c)
  unfold V
  rw [V0_eq]
  unfold hostOps0_4
  after_results

end Drawn

variable (m : (ℓ : Loc nD τ sig) → Buf (Elt Ideal) ℓ) (c : Dev nD)
variable (x : Fin 16384 → Fin 64 → EReal) (wt : Fin 1000 → Fin 64 → EReal) (b nz : Fin 1000 → EReal) (wd : Fin 16384 → Fin 51 → Fin 1000)

/-- The kernel's result, from its arguments and the words drawn. -/
theorem value_apply (hx : ∀ n e, m ((c.tc : Thread nD τ).loc main_arg0) (ix2 n e : S16384x64.Idx) = x n e)
    (ht : ∀ n, m ((c.tc : Thread nD τ).loc main_arg1) (ix1 n : S16384.Idx) = BitVec.ofNat 32 (wd n 0).val)
    (hwt : ∀ w e, m ((c.tc : Thread nD τ).loc main_arg2) (ix2 w e : S1000x64.Idx) = wt w e)
    (hb : ∀ w, m ((c.tc : Thread nD τ).loc main_arg3) (ix1 w : S1000.Idx) = b w)
    (hn : ∀ w, m ((c.tc : Thread nD τ).loc main_arg4) (ix1 w : S1000.Idx) = nz w)
    (hd : ∀ n (i : Fin 50), drawn m c (Proc.devRef .tc main_v12) (ix2 n i : S16384x50.Idx) = BitVec.ofNat 32 (wd n i.succ).val) (j : S_.Idx) :
    (Host.divf (Host.negf (shapeCast S_ (reg_main_v20 m c) shapeCasts_S1x1_S_)) (constant S_ .f32 0x46800000#32) : FVec Ideal S_ .f32) j
      = Ideal.div (-(∑ n : Fin 16384, Terms.rowLoss x wt b nz wd n)) (Ideal.ofBits .f32 0x46800000#32) := by
  have h : result m c (ix2 0 0 : S1x1.Idx) = ∑ n : Fin 16384, Terms.rowLoss x wt b nz wd n := by
    refine result_apply m c x wt b nz wd (fun n e => ?_) (fun n k => ?_) (fun e w => ?_) (fun z w => ?_) (fun z w => ?_)
    · rw [V_main_arg0]; exact hx n e
    · unfold V
      rw [V0_eq, layout_words, drawn_arg1]
      exact Take.words_apply (m ((c.tc : Thread nD τ).loc main_arg1)) _ _ _ wd (fun n => Take.column_apply _ _ n) ht hd n k
    · unfold V
      rw [V0_eq, layout_weight, drawn_arg2, ← hwt]
      generalize m ((c.tc : Thread nD τ).loc main_arg2) = u
      pointwise []
    · unfold V
      rw [V0_eq, layout_bias, drawn_arg3, ← hb]
      generalize m ((c.tc : Thread nD τ).loc main_arg3) = u
      pointwise []
    · unfold V Terms.weight
      rw [V0_eq, layout_noise, drawn_arg4, ← hn]
      generalize m ((c.tc : Thread nD τ).loc main_arg4) = u
      pointwise []
  rw [← h, final_o]
  generalize result m c = u
  have hj : j = ix0 := funext fun a => a.elim0
  rw [hj]
  pointwise []

end Cert.KernelIdeal.Block

end
-- ==== Proof.RefRun.lean ====
/- What running the reference leaves in its buffers: each operation writes one buffer, of its own, and the
   arguments are never written. -/
module

public import proofs.«01_k».proof.Proof.RefLine
public import Idealize.ShloMosaic.Lib.Quiescent

@[expose] public section

set_option maxRecDepth 8000

noncomputable section

namespace Cert.ReferenceIdeal.Line

open Idealize.ShloMosaic Idealize.ShloMosaic.TcCoe
open Idealize.SL.Sem Cert.ReferenceIdeal.Gen

variable {F : FTy → Type} [FloatOps F]

/-- An operation that touches the TensorCore's buffers only, determines what it writes, and writes one buffer of
    main memory, the `n`-th or a later one. -/
structure Step (n : Nat) (op : HloOp τ sig (Elt F)) : Prop where
  sub : op.bufs ⊆ StableHlo.tcRefs τ sig
  fresh : op.fresh = ∅
  writes : ∃ y : Ref sig .tc, op.writes = {Proc.devRef .tc y} ∧ y.space = .hbm ∧ n ≤ y.idx.val

theorem Step.mono {n k : Nat} (h : n ≤ k) {op : HloOp τ sig (Elt F)} (s : Step k op) : Step n op :=
  ⟨s.sub, s.fresh, let ⟨y, a, b, c⟩ := s.writes; ⟨y, a, b, h.trans c⟩⟩

theorem Steps.mono {n k : Nat} (h : n ≤ k) {ops : List (HloOp τ sig (Elt F))} (s : ops.Forall (Step k)) : ops.Forall (Step n) :=
  List.forall_iff_forall_mem.mpr fun op hop => (List.forall_iff_forall_mem.mp s op hop).mono h

theorem Steps.nil {n : Nat} : ([] : List (HloOp τ sig (Elt F))).Forall (Step n) := trivial

theorem Steps.append {n : Nat} {a b : List (HloOp τ sig (Elt F))} (ha : a.Forall (Step n)) (hb : b.Forall (Step n)) :
    (a ++ b).Forall (Step n) :=
  List.forall_iff_forall_mem.mpr fun op hop => (List.mem_append.mp hop).elim
    (List.forall_iff_forall_mem.mp ha op) (List.forall_iff_forall_mem.mp hb op)

/-- A line of such steps keeps every earlier buffer. -/
theorem Steps.keep {n : Nat} {ops : List (HloOp τ sig (Elt F))} (h : ops.Forall (Step n)) (V : Valuation τ sig (Elt F))
    (x : Ref sig .tc) (hx : x.idx.val < n) :
    StableHlo.after ops V (Proc.devRef .tc x) = V (Proc.devRef .tc x) :=
  StableHlo.after_of_forall_not_mem ops V fun op hop hb => by
    obtain ⟨y, hw, -, hn⟩ := (List.forall_iff_forall_mem.mp h op hop).writes
    rw [hw, Finset.mem_singleton] at hb
    have : x = y := Proc.devRef_injective _ hb
    subst this
    omega

theorem after_append (a b : List (HloOp τ sig (Elt F))) (V : Valuation τ sig (Elt F)) :
    StableHlo.after (a ++ b) V = StableHlo.after b (StableHlo.after a V) := by
  induction a generalizing V with
  | nil => rfl
  | cons op l ih => exact ih _

theorem opsKey_steps : (opsKey (F := F)).Forall (Step 5) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

set_option maxHeartbeats 40000000 in
theorem opsGumbel_steps : (opsGumbel (F := F)).Forall (Step 16) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsScores_steps : (opsScores (F := F)).Forall (Step 288) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsArgmax_steps : (opsArgmax (F := F)).Forall (Step 291) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsIndices_steps : (opsIndices (F := F)).Forall (Step 296) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsRows_steps : (opsRows (F := F)).Forall (Step 298) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsBias_steps : (opsBias (F := F)).Forall (Step 321) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsLogits_steps : (opsLogits (F := F)).Forall (Step 343) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsNoise_steps : (opsNoise (F := F)).Forall (Step 352) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsNoiseTarget_steps : (opsNoiseTarget (F := F)).Forall (Step 374) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

theorem opsLoss_steps : (opsLoss (F := F)).Forall (Step 396) := by
  repeat' first
    | (with_reducible refine (List.forall_cons _ _ _).mpr (And.intro (Step.mk ?_ ?_ ?_) ?_)) <;>
        [skip; exact rfl; exact ⟨_, rfl, rfl, by decide⟩; skip]
    | with_reducible exact Steps.nil
    | with_reducible exact StableHlo.unary_bufs_sub ..
    | with_reducible exact StableHlo.binary_bufs_sub ..
    | with_reducible exact StableHlo.nullary_bufs_sub ..
    | with_reducible exact StableHlo.reshape_bufs_sub ..
    | with_reducible exact StableHlo.ternary_bufs_sub ..
    | with_reducible exact StableHlo.quaternary_bufs_sub ..

/-- The whole line never writes an argument. -/
theorem ops_steps : (ops (F := F)).Forall (Step 5) :=
  Steps.append (Steps.mono (by decide) opsKey_steps)
    (Steps.append (Steps.mono (by decide) opsGumbel_steps)
    (Steps.append (Steps.mono (by decide) opsScores_steps)
    (Steps.append (Steps.mono (by decide) opsArgmax_steps)
    (Steps.append (Steps.mono (by decide) opsIndices_steps)
    (Steps.append (Steps.mono (by decide) opsRows_steps)
    (Steps.append (Steps.mono (by decide) opsBias_steps)
    (Steps.append (Steps.mono (by decide) opsLogits_steps)
    (Steps.append (Steps.mono (by decide) opsNoise_steps)
    (Steps.append (Steps.mono (by decide) opsNoiseTarget_steps)
    (Steps.mono (by decide) opsLoss_steps))))))))))

theorem scoped_refs : (Finset.univ.filter fun b : Ref sig .tc => b.isScoped) = ∅ := by decide
theorem scoped_sems : (Finset.univ.filter fun sm : SemLoc sig => sm.isScoped .tc) = ∅ := by decide

variable (m : (ℓ : Loc nD τ sig) → Buf (Elt F) ℓ)

/-- The reference's memory when it ends. -/
def final (c : Dev nD) : Valuation τ sig (Elt F) := StableHlo.after ops (StableHlo.launchContents m c)

/-- The reference ends, with every buffer at what the line leaves there. -/
theorem run_final (ρ : Dev nD → PrngReg) :
    θ_run defs (onTc (τ := τ) (main (F := F))) ⟨m, fun _ => 0, ρ⟩ fun r => ∀ (c : Dev nD) (b : Ref sig .tc),
      r.2.mem ((c.tc : Thread nD τ).loc b) = final m c (Proc.devRef .tc b) :=
  StableHlo.run_seq scoped_refs scoped_sems defs main (fun _ => ops) main_eq
    (fun _ => List.forall_iff_forall_mem.mpr fun op hop => (List.forall_iff_forall_mem.mp ops_steps op hop).sub) m ρ
    (fun _ op hop => (List.forall_iff_forall_mem.mp ops_steps op hop).fresh)

theorem final_arg (c : Dev nD) (x : Ref sig .tc) (hx : x.idx.val < 5) :
    final m c (Proc.devRef .tc x) = m ((c.tc : Thread nD τ).loc x) :=
  Steps.keep ops_steps _ x hx

/-- The reference ends with its result at what the line leaves there and its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v43) = final m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨h c main_v43,
    (h c main_arg0).trans (final_arg m c main_arg0 (by decide)), (h c main_arg1).trans (final_arg m c main_arg1 (by decide)),
    (h c main_arg2).trans (final_arg m c main_arg2 (by decide)), (h c main_arg3).trans (final_arg m c main_arg3 (by decide)),
    (h c main_arg4).trans (final_arg m c main_arg4 (by decide))⟩) (run_final m ρ)

/-- The reference's frame: it ends, its arguments unchanged and every semaphore at zero. -/
theorem frame (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩) (run m ρ)

end Cert.ReferenceIdeal.Line

end
-- ==== Proof.RefTake.lean ====
/- What the reference takes from its tables at the words it scores. -/
module

public import proofs.«01_k».proof.Proof.RefLine
public import proofs.«01_k».proof.Proof.Take

@[expose] public section

set_option maxRecDepth 100000

noncomputable section

namespace Cert.ReferenceIdeal.Line

open Cert.ReferenceIdeal Cert.ReferenceIdeal.Gen Idealize.ShloMosaic Idealize.ShloMosaic.TcCoe Idealize.ShloMosaic.StableHlo
open Idealize.ShloMosaic.Pointwise

/-- The positions looked up, from the words each row scores. -/
def lookups (i : IVec S16384x51 32) : IVec S16384x51x1 32 :=
  broadcastInDim S16384x51x1 ![0, 1] bcast_S16384x51_S16384x51x1_0_1
    (select (cmpi .slt i (broadcastInDim S16384x51 ![] bcast_S_S16384x51 (constantI S_ 32 0#32)))
      (addi i (broadcastInDim S16384x51 ![] bcast_S_S16384x51 (constantI S_ 32 1000#32))) i)

/-- Which positions looked up lie in the table. -/
def inTable (q : IVec S16384x51x1 32) : IVec S16384x51 1 :=
  Host.reduce IntOp.andi
    (andi (cmpi .sge q (broadcastInDim S16384x51x1 ![] bcast_S_S16384x51x1 (constantI S_ 32 0#32)))
      (cmpi .sle q (broadcastInDim S16384x51x1 ![0, 1, 2] bcast_S1x1x1_S16384x51x1_0_1_2
        (broadcastInDim S1x1x1 ![2] bcast_S1_S1x1x1_2 (constantI S1 32 999#32)))))
    (constantI S_ 1 1#1) reducesTo_S16384x51x1_S16384x51_d2 h_S_

theorem rows_eq (V : Valuation τ sig (Elt Ideal)) : after opsRows V (Proc.devRef .tc main_v15)
    = select (broadcastInDim S16384x51x64 ![0, 1] bcast_S16384x51_S16384x51x64_0_1 (inTable (lookups (V (Proc.devRef .tc main_v14)))))
        (Host.gather gather_S1000x64_S16384x51x1_S16384x51x64_2_0_n_n_0_2_164 (V (Proc.devRef .tc main_arg2)) (lookups (V (Proc.devRef .tc main_v14))))
        (broadcastInDim S16384x51x64 ![] bcast_S_S16384x51x64 (constant (F := Ideal) S_ .f32 0x7FC00000#32)) := by
  unfold opsRows
  after_results
  simp -implicitDefEqProofs only [TRef.toBuf, TRef.ofBuf, cast_cast, cast_eq]
  rfl

theorem bias_eq (V : Valuation τ sig (Elt Ideal)) : after opsBias V (Proc.devRef .tc main_v16)
    = select (inTable (lookups (V (Proc.devRef .tc main_v14))))
        (Host.gather gather_S1000_S16384x51x1_S16384x51_n_0_n_n_0_2_1 (V (Proc.devRef .tc main_arg3)) (lookups (V (Proc.devRef .tc main_v14))))
        (broadcastInDim S16384x51 ![] bcast_S_S16384x51 (constant (F := Ideal) S_ .f32 0x7FC00000#32)) := by
  unfold opsBias
  after_results
  simp -implicitDefEqProofs only [TRef.toBuf, TRef.ofBuf, cast_cast, cast_eq]
  rfl

section Words

variable (i : IVec S16384x51 32) (wd : Fin 16384 → Fin 51 → Fin 1000)

theorem lookups_apply (hi : ∀ n k, i (ix2 n k : S16384x51.Idx) = BitVec.ofNat 32 (wd n k).val) (n : Fin 16384) (k : Fin 51) (z : Fin 1) :
    lookups i (ix3 n k z : S16384x51x1.Idx) = BitVec.ofNat 32 (wd n k).val := by
  have h := Take.wrap_apply i (broadcastInDim S16384x51 ![] bcast_S_S16384x51 (constantI S_ 32 0#32))
    (broadcastInDim S16384x51 ![] bcast_S_S16384x51 (constantI S_ 32 1000#32)) (ix2 n k) (wd n k) (hi n k) rfl
  refine Eq.trans ?_ h
  unfold lookups
  refine congrArg (select _ _ i) (funext fun a => ?_)
  match a with
  | ⟨0, _⟩ => rfl
  | ⟨1, _⟩ => rfl

theorem inTable_apply (q : IVec S16384x51x1 32) (hq : ∀ n k z, q (ix3 n k z : S16384x51x1.Idx) = BitVec.ofNat 32 (wd n k).val)
    (j : S16384x51.Idx) : inTable q j = 1#1 := by
  refine Take.all_apply _ _ _ _ (fun y => ?_) (fun _ => rfl) j
  rw [ValueIdx.eq_ix3 y]
  exact Take.bounds_apply _ _ _ _ _ (hq _ _ _) rfl rfl

/-- The rows of the table of weights at the words. -/
theorem rows_apply (V : Valuation τ sig (Elt Ideal)) (hi : ∀ n k, V (Proc.devRef .tc main_v14) (ix2 n k : S16384x51.Idx) = BitVec.ofNat 32 (wd n k).val)
    (n : Fin 16384) (k : Fin 51) (e : Fin 64) : after opsRows V (Proc.devRef .tc main_v15) (ix3 n k e : S16384x51x64.Idx)
      = V (Proc.devRef .tc main_arg2) (ix2 (wd n k) e : S1000x64.Idx) := by
  rw [rows_eq]
  have hl := lookups_apply _ wd hi
  show Scalar.select (inTable _ _) _ _ = _
  rw [inTable_apply wd _ hl]
  exact Take.gather_row gather_S1000x64_S16384x51x1_S16384x51x64_2_0_n_n_0_2_164.wf _ _ n k e (wd n k) (hl n k 0)

/-- The biases of the words. -/
theorem bias_apply (V : Valuation τ sig (Elt Ideal)) (hi : ∀ n k, V (Proc.devRef .tc main_v14) (ix2 n k : S16384x51.Idx) = BitVec.ofNat 32 (wd n k).val)
    (n : Fin 16384) (k : Fin 51) : after opsBias V (Proc.devRef .tc main_v16) (ix2 n k : S16384x51.Idx)
      = V (Proc.devRef .tc main_arg3) (ix1 (wd n k) : S1000.Idx) := by
  rw [bias_eq]
  have hl := lookups_apply _ wd hi
  show Scalar.select (inTable _ _) _ _ = _
  rw [inTable_apply wd _ hl]
  exact Take.gather_entry gather_S1000_S16384x51x1_S16384x51_n_0_n_n_0_2_1.wf _ _ n k (wd n k) (hl n k 0)

end Words

/-- The positions looked up, from each row's samples. -/
def lookupsS (i : IVec S16384x50 32) : IVec S16384x50x1 32 :=
  broadcastInDim S16384x50x1 ![0, 1] bcast_S16384x50_S16384x50x1_0_1
    (select (cmpi .slt i (broadcastInDim S16384x50 ![] bcast_S_S16384x50 (constantI S_ 32 0#32)))
      (addi i (broadcastInDim S16384x50 ![] bcast_S_S16384x50 (constantI S_ 32 1000#32))) i)

/-- Which of the samples' positions lie in the table. -/
def inTableS (q : IVec S16384x50x1 32) : IVec S16384x50 1 :=
  Host.reduce IntOp.andi
    (andi (cmpi .sge q (broadcastInDim S16384x50x1 ![] bcast_S_S16384x50x1 (constantI S_ 32 0#32)))
      (cmpi .sle q (broadcastInDim S16384x50x1 ![0, 1, 2] bcast_S1x1x1_S16384x50x1_0_1_2
        (broadcastInDim S1x1x1 ![2] bcast_S1_S1x1x1_2 (constantI S1 32 999#32)))))
    (constantI S_ 1 1#1) reducesTo_S16384x50x1_S16384x50_d2 h_S_

theorem noise_eq (V : Valuation τ sig (Elt Ideal)) : after opsNoise V (Proc.devRef .tc main_v25)
    = select (inTableS (lookupsS (V (Proc.devRef .tc main_v12))))
        (Host.gather gather_S1000_S16384x50x1_S16384x50_n_0_n_n_0_2_1 (V (Proc.devRef .tc main_arg4)) (lookupsS (V (Proc.devRef .tc main_v12))))
        (broadcastInDim S16384x50 ![] bcast_S_S16384x50 (constant (F := Ideal) S_ .f32 0x7FC00000#32)) := by
  unfold opsNoise
  after_results
  simp -implicitDefEqProofs only [TRef.toBuf, TRef.ofBuf, cast_cast, cast_eq]
  rfl

/-- The noise of the samples. -/
theorem noise_apply (V : Valuation τ sig (Elt Ideal)) (wd : Fin 16384 → Fin 50 → Fin 1000)
    (hi : ∀ n k, V (Proc.devRef .tc main_v12) (ix2 n k : S16384x50.Idx) = BitVec.ofNat 32 (wd n k).val)
    (n : Fin 16384) (k : Fin 50) : after opsNoise V (Proc.devRef .tc main_v25) (ix2 n k : S16384x50.Idx)
      = V (Proc.devRef .tc main_arg4) (ix1 (wd n k) : S1000.Idx) := by
  rw [noise_eq]
  have hl : ∀ n k z, lookupsS (V (Proc.devRef .tc main_v12)) (ix3 n k z : S16384x50x1.Idx) = BitVec.ofNat 32 (wd n k).val := by
    intro n k z
    refine Eq.trans ?_ (Take.wrap_apply _ (broadcastInDim S16384x50 ![] bcast_S_S16384x50 (constantI S_ 32 0#32))
      (broadcastInDim S16384x50 ![] bcast_S_S16384x50 (constantI S_ 32 1000#32)) (ix2 n k) (wd n k) (hi n k) rfl)
    unfold lookupsS
    refine congrArg (select _ _ _) (funext fun a => ?_)
    match a with
    | ⟨0, _⟩ => rfl
    | ⟨1, _⟩ => rfl
  have hm : inTableS (lookupsS (V (Proc.devRef .tc main_v12))) (ix2 n k) = 1#1 := by
    refine Take.all_apply _ _ _ _ (fun y => ?_) (fun _ => rfl) _
    rw [ValueIdx.eq_ix3 y]
    exact Take.bounds_apply _ _ _ _ _ (hl _ _ _) rfl rfl
  show Scalar.select (inTableS _ _) _ _ = _
  rw [hm]
  exact Take.gather_entry gather_S1000_S16384x50x1_S16384x50_n_0_n_n_0_2_1.wf _ _ n k (wd n k) (hl n k 0)

/-- The positions looked up, from the target words. -/
def lookupsT (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1000#32))) i)

/-- Which of the targets' positions lie in the table. -/
def inTableT (q : IVec S16384x1 32) : IVec S16384 1 :=
  Host.reduce IntOp.andi
    (andi (cmpi .sge q (broadcastInDim S16384x1 ![] bcast_S_S16384x1 (constantI S_ 32 0#32)))
      (cmpi .sle q (broadcastInDim S16384x1 ![0, 1] bcast_S1x1_S16384x1_0_1
        (broadcastInDim S1x1 ![1] bcast_S1_S1x1_1 (constantI S1 32 999#32)))))
    (constantI S_ 1 1#1) reducesTo_S16384x1_S16384_d1 h_S_

theorem noiseTarget_eq (V : Valuation τ sig (Elt Ideal)) : after opsNoiseTarget V (Proc.devRef .tc main_v26)
    = select (inTableT (lookupsT (V (Proc.devRef .tc main_arg1))))
        (Host.gather gather_S1000_S16384x1_S16384_n_0_n_n_0_1_1 (V (Proc.devRef .tc main_arg4)) (lookupsT (V (Proc.devRef .tc main_arg1))))
        (broadcastInDim S16384 ![] bcast_S_S16384 (constant (F := Ideal) S_ .f32 0x7FC00000#32)) := by
  unfold opsNoiseTarget
  after_results
  simp -implicitDefEqProofs only [TRef.toBuf, TRef.ofBuf, cast_cast, cast_eq]
  rfl

/-- The noise of the target words. -/
theorem noiseTarget_apply (V : Valuation τ sig (Elt Ideal)) (wd : Fin 16384 → Fin 1000)
    (hi : ∀ n, V (Proc.devRef .tc main_arg1) (ix1 n : S16384.Idx) = BitVec.ofNat 32 (wd n).val)
    (n : Fin 16384) : after opsNoiseTarget V (Proc.devRef .tc main_v26) (ix1 n : S16384.Idx)
      = V (Proc.devRef .tc main_arg4) (ix1 (wd n) : S1000.Idx) := by
  rw [noiseTarget_eq]
  have hl : ∀ n z, lookupsT (V (Proc.devRef .tc main_arg1)) (ix2 n z : S16384x1.Idx) = BitVec.ofNat 32 (wd n).val := by
    intro n z
    refine Eq.trans ?_ (Take.wrap_apply _ (broadcastInDim S16384 ![] bcast_S_S16384 (constantI S_ 32 0#32))
      (broadcastInDim S16384 ![] bcast_S_S16384 (constantI S_ 32 1000#32)) (ix1 n) (wd n) (hi n) rfl)
    unfold lookupsT
    refine congrArg (select _ _ _) (funext fun a => ?_)
    match a with
    | ⟨0, _⟩ => rfl
  have hm : inTableT (lookupsT (V (Proc.devRef .tc main_arg1))) (ix1 n) = 1#1 := by
    refine Take.all_apply _ _ _ _ (fun y => ?_) (fun _ => rfl) _
    rw [ValueIdx.eq_ix2 y]
    exact Take.bounds_apply _ _ _ _ _ (hl _ _) rfl rfl
  show Scalar.select (inTableT _ _) _ _ = _
  rw [hm]
  exact Routing.gather_take1 gather_S1000_S16384x1_S16384_n_0_n_n_0_1_1 rfl rfl rfl rfl _ _ n (wd n) (hl n 0) (by decide)

end Cert.ReferenceIdeal.Line

end
-- ==== Proof.RefTotal.lean ====
/- The reference's result over the extended reals. -/
module

public import proofs.«01_k».proof.Proof.RefTake
public import proofs.«01_k».proof.Proof.Terms

@[expose] public section

set_option maxRecDepth 100000

noncomputable section

namespace Cert.ReferenceIdeal.Line

open Cert.ReferenceIdeal Cert.ReferenceIdeal.Gen Idealize.ShloMosaic Idealize.ShloMosaic.TcCoe Idealize.ShloMosaic.StableHlo
open Idealize.ShloMosaic.Pointwise

section Shares

variable (w : FVec Ideal S16384x51x64 .f32) (b : FVec Ideal S16384x51 .f32) (x : FVec Ideal S16384x64 .f32)

/-- The exponentials of the normalised logits. -/
def shares : FVec Ideal S16384x51 .f32 :=
  Host.exp (subf (addf (Host.dotGeneral dot_S16384x51x64_S16384x64_S16384x51_2_1_1_n_0_0 none w x) b)
    (broadcastInDim S16384x51 ![] bcast_S_S16384x51 (constant S_ .f32 0x41100000#32)))

theorem shares_apply (n : Fin 16384) (k : Fin 51) : shares w b x (ix2 n k : S16384x51.Idx)
    = Ideal.exp (((∑ e : Fin 64, x (ix2 n e : S16384x64.Idx) * w (ix3 n k e : S16384x51x64.Idx)) + b (ix2 n k : S16384x51.Idx)) - Terms.norm) := by
  unfold Terms.norm
  simp only [mul_comm (x _) (w _)]
  pointwise [shares]

end Shares

theorem target_eq (V : Valuation τ sig (Elt Ideal)) : after opsLogits V (Proc.devRef .tc main_v23)
    = shapeCast S16384 (extractStridedSlice S16384x1 ![0, 0]
        (shares (V (Proc.devRef .tc main_v15)) (V (Proc.devRef .tc main_v16)) (V (Proc.devRef .tc main_arg0))) slices_S16384x51_S16384x1_0_0)
        shapeCasts_S16384x1_S16384 := by
  unfold opsLogits
  after_results
  rfl

theorem samples_eq (V : Valuation τ sig (Elt Ideal)) : after opsLogits V (Proc.devRef .tc main_v24)
    = extractStridedSlice S16384x50 ![0, 1]
        (shares (V (Proc.devRef .tc main_v15)) (V (Proc.devRef .tc main_v16)) (V (Proc.devRef .tc main_arg0))) slices_S16384x51_S16384x50_0_1 := by
  unfold opsLogits
  after_results
  rfl

theorem target_apply (V : Valuation τ sig (Elt Ideal)) (n : Fin 16384) : after opsLogits V (Proc.devRef .tc main_v23) (ix1 n : S16384.Idx)
    = shares (V (Proc.devRef .tc main_v15)) (V (Proc.devRef .tc main_v16)) (V (Proc.devRef .tc main_arg0)) (ix2 n 0 : S16384x51.Idx) := by
  rw [target_eq]
  generalize shares _ _ _ = p
  pointwise []

theorem samples_apply (V : Valuation τ sig (Elt Ideal)) (n : Fin 16384) (i : Fin 50) : after opsLogits V (Proc.devRef .tc main_v24) (ix2 n i : S16384x50.Idx)
    = shares (V (Proc.devRef .tc main_v15)) (V (Proc.devRef .tc main_v16)) (V (Proc.devRef .tc main_arg0)) (ix2 n i.succ : S16384x51.Idx) := by
  rw [samples_eq]
  generalize shares _ _ _ = p
  have hi : i.succ = (⟨1 + i.val, by omega⟩ : Fin 51) := Fin.ext (Nat.add_comm _ _)
  rw [hi]
  pointwise []

section Loss

variable (p : FVec Ideal S16384 .f32) (ps : FVec Ideal S16384x50 .f32) (z : FVec Ideal S16384 .f32) (zs : FVec Ideal S16384x50 .f32)

/-- The rows' losses, from the shares and the noise of their words. -/
def losses : FVec Ideal S16384 .f32 :=
  addf
    (Host.log (Host.divf p (addf p (mulf (broadcastInDim S16384 ![] bcast_S_S16384 (constant S_ .f32 0x42480000#32)) z))))
    (Host.reduceAdd
      (Host.log (Host.divf (mulf (broadcastInDim S16384x50 ![] bcast_S_S16384x50 (constant S_ .f32 0x42480000#32)) zs)
        (addf ps (mulf (broadcastInDim S16384x50 ![] bcast_S_S16384x50 (constant S_ .f32 0x42480000#32)) zs))))
      (constant S_ .f32 0x00000000#32) reducesTo_S16384x50_S16384_d1 h_S_)

/-- The mean of the rows' losses, negated. -/
def mean (l : FVec Ideal S16384 .f32) : FVec Ideal S_ .f32 :=
  Host.divf (mulf (constant S_ .f32 0xBF800000#32) (Host.reduceAdd l (constant S_ .f32 0x00000000#32) reducesTo_S16384_S_d0 h_S_))
    (constant S_ .f32 0x46800000#32)

theorem losses_apply (n : Fin 16384) : losses p ps z zs (ix1 n : S16384.Idx)
    = Ideal.log (Ideal.div (p (ix1 n)) (p (ix1 n) + Ideal.ofBits .f32 0x42480000#32 * z (ix1 n)))
      + ∑ i : Fin 50, Ideal.log (Ideal.div (Ideal.ofBits .f32 0x42480000#32 * zs (ix2 n i : S16384x50.Idx))
          (ps (ix2 n i : S16384x50.Idx) + Ideal.ofBits .f32 0x42480000#32 * zs (ix2 n i : S16384x50.Idx))) := by
  pointwise [losses]

theorem mean_apply (l : FVec Ideal S16384 .f32) (j : S_.Idx) :
    mean l j = Ideal.div (-(∑ n : Fin 16384, l (ix1 n : S16384.Idx))) (Ideal.ofBits .f32 0x46800000#32) := by
  have e : Ideal.ofBits .f32 0xBF800000#32 = -1 := by
    simp [Ideal.ofBits, Ideal.ieee, -EReal.coe_mul]
    norm_num
  rw [← neg_one_mul (∑ n : Fin 16384, l (ix1 n : S16384.Idx)), ← e]
  have hj : j = ix0 := funext fun a => a.elim0
  rw [hj]
  pointwise [mean]

end Loss

theorem loss_eq (V : Valuation τ sig (Elt Ideal)) : after opsLoss V (Proc.devRef .tc main_v43)
    = mean (losses (V (Proc.devRef .tc main_v23)) (V (Proc.devRef .tc main_v24)) (V (Proc.devRef .tc main_v26)) (V (Proc.devRef .tc main_v25))) := by
  unfold opsLoss
  after_results
  rfl

end Cert.ReferenceIdeal.Line

end
-- ==== Proof.RefValue.lean ====
/- The reference's result as the mean loss of its rows. -/
module

public import proofs.«01_k».proof.Proof.RefRun
public import proofs.«01_k».proof.Proof.RefTotal

@[expose] public section

set_option maxRecDepth 100000

noncomputable section

namespace Cert.ReferenceIdeal.Line

open Cert.ReferenceIdeal Cert.ReferenceIdeal.Gen Idealize.ShloMosaic Idealize.ShloMosaic.TcCoe Idealize.ShloMosaic.StableHlo
open Idealize.ShloMosaic.Pointwise

theorem indices_eq (V : Valuation τ sig (Elt Ideal)) : after opsIndices V (Proc.devRef .tc main_v14)
    = concatenate S16384x51 1 [⟨S16384x1, broadcastInDim S16384x1 ![0] bcast_S16384_S16384x1_0 (V (Proc.devRef .tc main_arg1))⟩,
        ⟨S16384x50, V (Proc.devRef .tc main_v12)⟩] concatenates_S16384x1_S16384x50_S16384x51_d1 := by
  unfold opsIndices
  after_results

/-- The operations after the draw. -/
def scoring : List (HloOp τ sig (Elt Ideal)) :=
  opsIndices ++ (opsRows ++ (opsBias ++ (opsLogits ++ (opsNoise ++ (opsNoiseTarget ++ opsLoss)))))

theorem ops_eq : ops (F := Ideal) = (opsKey ++ (opsGumbel ++ (opsScores ++ opsArgmax))) ++ scoring := by
  unfold ops scoring
  rw [List.append_assoc, List.append_assoc, List.append_assoc]

variable (V : Valuation τ sig (Elt Ideal)) (x : Fin 16384 → Fin 64 → EReal) (wt : Fin 1000 → Fin 64 → EReal) (b nz : Fin 1000 → EReal)
  (wd : Fin 16384 → Fin 51 → Fin 1000)

/-- The reference's result, from its arguments and the words drawn. -/
theorem scoring_apply (hx : ∀ n e, V (Proc.devRef .tc main_arg0) (ix2 n e : S16384x64.Idx) = x n e)
    (ht : ∀ n, V (Proc.devRef .tc main_arg1) (ix1 n : S16384.Idx) = BitVec.ofNat 32 (wd n 0).val)
    (hwt : ∀ w e, V (Proc.devRef .tc main_arg2) (ix2 w e : S1000x64.Idx) = wt w e)
    (hb : ∀ w, V (Proc.devRef .tc main_arg3) (ix1 w : S1000.Idx) = b w)
    (hn : ∀ w, V (Proc.devRef .tc main_arg4) (ix1 w : S1000.Idx) = nz w) (hpos : ∀ w, 0 ≤ nz w)
    (hd : ∀ n (i : Fin 50), V (Proc.devRef .tc main_v12) (ix2 n i : S16384x50.Idx) = BitVec.ofNat 32 (wd n i.succ).val) (j : S_.Idx) :
    after scoring V (Proc.devRef .tc main_v43) j
      = Ideal.div (-(∑ n : Fin 16384, Terms.rowLoss x wt b nz wd n)) (Ideal.ofBits .f32 0x46800000#32) := by
  unfold scoring
  simp only [after_append]
  -- the words, their weight rows and their biases
  have k2 := Steps.keep (F := Ideal) opsIndices_steps V
  have w2 : ∀ n k, after opsIndices V (Proc.devRef .tc main_v14) (ix2 n k : S16384x51.Idx) = BitVec.ofNat 32 (wd n k).val := by
    intro n k
    rw [indices_eq]
    exact Take.words_apply (V (Proc.devRef .tc main_arg1)) _ _ _ wd (fun n => Take.column_apply _ _ n) ht hd n k
  generalize after opsIndices V = V2 at k2 w2 ⊢
  have k3 := Steps.keep (F := Ideal) opsRows_steps V2
  have r3 := rows_apply wd V2 w2
  generalize after opsRows V2 = V3 at k3 r3 ⊢
  have k4 := Steps.keep (F := Ideal) opsBias_steps V3
  have b4 := bias_apply wd V3 fun n k => by rw [k3 main_v14 (by decide)]; exact w2 n k
  generalize after opsBias V3 = V4 at k4 b4 ⊢
  -- the shares
  have k5 := Steps.keep (F := Ideal) opsLogits_steps V4
  have hs : ∀ n k, shares (V4 (Proc.devRef .tc main_v15)) (V4 (Proc.devRef .tc main_v16)) (V4 (Proc.devRef .tc main_arg0)) (ix2 n k : S16384x51.Idx)
      = Ideal.exp (Terms.logit x wt b n (wd n k) - Terms.norm) := by
    intro n k
    rw [shares_apply]
    unfold Terms.logit
    rw [b4, k3 main_arg3 (by decide), k2 main_arg3 (by decide), hb]
    refine congrArg (fun u => Ideal.exp ((u + b (wd n k)) - Terms.norm)) (Finset.sum_congr rfl fun e _ => ?_)
    rw [k4 main_arg0 (by decide), k3 main_arg0 (by decide), k2 main_arg0 (by decide), hx, k4 main_v15 (by decide), r3, k2 main_arg2 (by decide), hwt]
  have t5 : ∀ n, after opsLogits V4 (Proc.devRef .tc main_v23) (ix1 n : S16384.Idx) = _ := fun n => (target_apply V4 n).trans (hs n 0)
  have s5 : ∀ n i, after opsLogits V4 (Proc.devRef .tc main_v24) (ix2 n i : S16384x50.Idx) = _ := fun n i => (samples_apply V4 n i).trans (hs n i.succ)
  generalize after opsLogits V4 = V5 at k5 t5 s5 ⊢
  -- the noise
  have k6 := Steps.keep (F := Ideal) opsNoise_steps V5
  have n6 := noise_apply V5 (fun n i => wd n i.succ) fun n i => by
    rw [k5 main_v12 (by decide), k4 main_v12 (by decide), k3 main_v12 (by decide), k2 main_v12 (by decide)]; exact hd n i
  generalize after opsNoise V5 = V6 at k6 n6 ⊢
  have k7 := Steps.keep (F := Ideal) opsNoiseTarget_steps V6
  have n7 := noiseTarget_apply V6 (fun n => wd n 0) fun n => by
    rw [k6 main_arg1 (by decide), k5 main_arg1 (by decide), k4 main_arg1 (by decide), k3 main_arg1 (by decide), k2 main_arg1 (by decide)]; exact ht n
  generalize after opsNoiseTarget V6 = V7 at k7 n7 ⊢
  -- the mean
  have e4 : ∀ w, V5 (Proc.devRef .tc main_arg4) (ix1 w : S1000.Idx) = nz w := fun w => by
    rw [k5 main_arg4 (by decide), k4 main_arg4 (by decide), k3 main_arg4 (by decide), k2 main_arg4 (by decide)]; exact hn w
  rw [loss_eq, mean_apply]
  refine congrArg (fun u => Ideal.div (-u) _) (Finset.sum_congr rfl fun n _ => ?_)
  rw [losses_apply]
  unfold Terms.rowLoss
  refine congrArg₂ (· + ·) ?_ (Finset.sum_congr rfl fun i _ => ?_)
  · rw [k7 main_v23 (by decide), k6 main_v23 (by decide), t5, n7, k6 main_arg4 (by decide), e4]
    exact Terms.dataTerm_eq _ _ (Terms.weight_nonneg nz _ (hpos _))
  · rw [k7 main_v24 (by decide), k6 main_v24 (by decide), s5, k7 main_v25 (by decide), n6, e4]
    exact Terms.noiseTerm_eq _ _ (Terms.weight_nonneg nz _ (hpos _))

end Cert.ReferenceIdeal.Line

end
-- ==== Proof.Draw.lean ====
/- Every sampled word is a word: the position of a greatest entry is the position of some entry. -/
module

public import proofs.«01_k».proof.Proof.RefLine
public import Idealize.ShloMosaic.Lib.Pointwise

@[expose] public section

noncomputable section

namespace Cert.ReferenceIdeal.Line

open Cert.ReferenceIdeal Cert.ReferenceIdeal.Gen Idealize.ShloMosaic Idealize.ShloMosaic.TcCoe Idealize.ShloMosaic.StableHlo

/-- The number of one of the 1000 words. -/
def IsWord (v : BitVec 32) : Prop := ∃ w : Fin 1000, v = BitVec.ofNat 32 w.val

/-- The greater of two entries keeps the position of one of the two. -/
theorem reducer_position (a b : Ideal .f32 × BitVec 32) :
    (reducer_argmax_f32_i32 a b).2 = a.2 ∨ (reducer_argmax_f32_i32 a b).2 = b.2 := by
  unfold reducer_argmax_f32_i32
  dsimp only
  generalize IntOp.ori _ (IntOp.andi _ _) = v
  by_cases h : v = 1#1
  · left; simp [Scalar.select, h]
  · right; simp [Scalar.select, h]

theorem fold_word (l : List (Ideal .f32 × BitVec 32)) (a : Ideal .f32 × BitVec 32) (ha : IsWord a.2) (hl : ∀ p ∈ l, IsWord p.2) :
    IsWord (l.foldl reducer_argmax_f32_i32 a).2 := by
  induction l generalizing a with
  | nil => exact ha
  | cons p l ih =>
    refine ih _ ?_ fun q hq => hl q (List.mem_cons_of_mem _ hq)
    rcases reducer_position a p with h | h <;> rw [h]
    · exact ha
    · exact hl p List.mem_cons_self

/-- The position of the greatest entry along the last axis is a word. -/
theorem argmax_word (x : FVec Ideal S16384x50x1000 .f32) (u : FVec Ideal S_ .f32) (j : S16384x50.Idx) :
    IsWord (Host.argReduce reducer_argmax_f32_i32 x (iotaInDim S16384x50x1000 32 2) u (constantI S_ 32 0#32)
      reducesTo_S16384x50x1000_S16384x50_d2 h_S_ j).2 := by
  rw [Ideal.argReduce_eq_reduce2, Host.reduce2_eq_foldl_fiber]
  refine fold_word _ _ ⟨0, rfl⟩ fun p hp => ?_
  obtain ⟨n, -, rfl⟩ := List.mem_map.mp hp
  exact ⟨(S16384x50x1000.rowMajor.symm n) 2, rfl⟩

theorem argmax_eq (V : Valuation τ sig (Elt Ideal)) :
    after opsArgmax V (Proc.devRef .tc main_v12)
      = fun j => (Host.argReduce (F := Ideal) (φ := .f32) reducer_argmax_f32_i32 (V (Proc.devRef .tc main_v11)) (iotaInDim S16384x50x1000 32 2)
          (constant S_ .f32 0xFF800000#32) (constantI S_ 32 0#32) reducesTo_S16384x50x1000_S16384x50_d2 h_S_ j).2 := by
  unfold opsArgmax
  after_results
  rfl

/-- The sampled words are words. -/
theorem samples_word (V : Valuation τ sig (Elt Ideal)) (j : S16384x50.Idx) :
    IsWord (after opsArgmax V (Proc.devRef .tc main_v12) j) := by
  rw [argmax_eq]
  exact argmax_word _ _ j

end Cert.ReferenceIdeal.Line

end
-- ==== Proof.Twin.lean ====
/- Two straight lines of operations over two programs' buffers that do the same thing: run from memories that
   agree on the first buffers, each step writes the next buffer of both programs with one value. -/
module

public import Idealize.ShloMosaic.Lib.StableHlo.Run

@[expose] public section

noncomputable section

namespace Cert.Twin

open Idealize.ShloMosaic Idealize.ShloMosaic.StableHlo Idealize.ShloMosaic.TcCoe

variable {τ τ' : Topo} {sig sig' : RefSig} {Val : EltTy → Type}

/-- Two references of two programs name buffers of one type at the place `i` of main memory. -/
structure Same (x : Ref sig .tc) (x' : Ref sig' .tc) (i : Nat) : Prop where
  space : x.space = .hbm
  space' : x'.space = .hbm
  idx : x.idx.val = i
  idx' : x'.idx.val = i
  ty : x.ty = x'.ty

/-- Two memories hold the same contents in their first `n` buffers. -/
def Agree (n : Nat) (V : Valuation τ sig Val) (V' : Valuation τ' sig' Val) : Prop :=
  ∀ (x : Ref sig .tc) (x' : Ref sig' .tc) (i : Nat), i < n → Same x x' i →
    HEq (V (Proc.devRef .tc x)) (V' (Proc.devRef .tc x'))

/-- Two lines take memories that agree on `n` buffers to memories that agree on `k`. -/
def Sim (n k : Nat) (ops : List (HloOp τ sig Val)) (ops' : List (HloOp τ' sig' Val)) : Prop :=
  ∀ V V', Agree n V V' → Agree k (after ops V) (after ops' V')

theorem Sim.nil {n : Nat} : Sim n n ([] : List (HloOp τ sig Val)) ([] : List (HloOp τ' sig' Val)) := fun _ _ h => h

theorem Sim.append {n k l : Nat} {a b : List (HloOp τ sig Val)} {a' b' : List (HloOp τ' sig' Val)}
    (h : Sim n k a a') (g : Sim k l b b') : Sim n l (a ++ b) (a' ++ b') := fun V V' hV => by
  have e : ∀ {τ : Topo} {sig : RefSig} (a b : List (HloOp τ sig Val)) V, after (a ++ b) V = after b (after a V) := by
    intro τ sig a b
    induction a with
    | nil => intro V; rfl
    | cons op l ih => intro V; exact ih _
  rw [e, e]
  exact g _ _ (h _ _ hV)

/-- A step that writes the buffer `n` of each program, with equal values, carries agreement one buffer further. -/
theorem Sim.cons {n k : Nat} {op : HloOp τ sig Val} {op' : HloOp τ' sig' Val} {ops : List (HloOp τ sig Val)}
    {ops' : List (HloOp τ' sig' Val)} {y : Ref sig .tc} {y' : Ref sig' .tc} (hy : Same y y' n)
    (hw : op.writes = {Proc.devRef .tc y}) (hw' : op'.writes = {Proc.devRef .tc y'})
    (hv : ∀ V V', Agree n V V' → HEq (op.result V (Proc.devRef .tc y)) (op'.result V' (Proc.devRef .tc y')))
    (h : Sim (n + 1) k ops ops') : Sim n k (op :: ops) (op' :: ops') := fun V V' hV => by
  refine h _ _ fun x x' i hi hx => ?_
  rcases Nat.lt_succ_iff_lt_or_eq.mp hi with hlt | heq
  · have hne : x ≠ y := fun e => by have := hx.idx; rw [e, hy.idx] at this; omega
    have hne' : x' ≠ y' := fun e => by have := hx.idx'; rw [e, hy.idx'] at this; omega
    rw [result_of_writes_ne op V y x hw hne, result_of_writes_ne op' V' y' x' hw' hne']
    exact hV x x' i hlt hx
  · subst heq
    have ex : x = y := by
      rcases x with ⟨sp, ix, nx⟩; rcases y with ⟨sp', iy, ny⟩
      have h1 := hx.space; have h2 := hy.space; have h3 := hx.idx; have h4 := hy.idx
      simp only at h1 h2 h3 h4
      subst h1; subst h2
      have : ix = iy := Fin.ext (h3.trans h4.symm)
      subst this; rfl
    have ex' : x' = y' := by
      rcases x' with ⟨sp, ix, nx⟩; rcases y' with ⟨sp', iy, ny⟩
      have h1 := hx.space'; have h2 := hy.space'; have h3 := hx.idx'; have h4 := hy.idx'
      simp only at h1 h2 h3 h4
      subst h1; subst h2
      have : ix = iy := Fin.ext (h3.trans h4.symm)
      subst this; rfl
    rw [ex, ex']
    exact hv V V' hV

/-- Equal functions at equal arguments, over types that are equal but spelt apart. -/
theorem app_heq {A A' B B' : Type} (hA : A = A') (hB : B = B') {f : A → B} {f' : A' → B'} (hf : HEq f f') {u : A} {u' : A'}
    (hu : HEq u u') : HEq (f u) (f' u') := by
  subst hA; subst hB; cases hf; cases hu; rfl

theorem contents_eq {x : Ref sig .tc} {x' : Ref sig' .tc} {i : Nat} (h : Same x x' i) : x.ty.Contents Val = x'.ty.Contents Val :=
  congrArg (fun T : BufTy => T.Contents Val) h.ty

theorem cast_heq_cast {T T' U U' : BufTy} (hT : T = T') (hU : U = U') (he : T.elt = U.elt) (he' : T'.elt = U'.elt)
    (hn : T.shape.ShapeCasts U.shape) (hn' : T'.shape.ShapeCasts U'.shape) (v : T.Contents Val) (v' : T'.Contents Val) (hv : HEq v v') :
    HEq (fun i => he ▸ shapeCast U.shape v hn i : U.Contents Val) (fun i => he' ▸ shapeCast U'.shape v' hn' i : U'.Contents Val) := by
  subst hT; subst hU; cases hv; rfl

section Builders

variable {n k : Nat} {ops : List (HloOp τ sig Val)} {ops' : List (HloOp τ' sig' Val)}
variable {x a b c e y : Ref sig .tc} {x' a' b' c' e' y' : Ref sig' .tc}

theorem Sim.nullary {v : y.ty.Contents Val} {v' : y'.ty.Contents Val} {hy hy'} (sy : Same y y' n) (hv : HEq v v')
    (h : Sim (n + 1) k ops ops') : Sim n k (StableHlo.nullary y v hy :: ops) (StableHlo.nullary y' v' hy' :: ops') :=
  Sim.cons sy rfl rfl (fun V V' _ => by rw [nullary_result, nullary_result]; exact hv) h

theorem Sim.unary {f : x.ty.Contents Val → y.ty.Contents Val} {f' : x'.ty.Contents Val → y'.ty.Contents Val} {hx hy hx' hy'}
    (sy : Same y y' n) (sx : Same x x' x.idx.val) (lx : x.idx.val < n) (hf : HEq f f') (h : Sim (n + 1) k ops ops') :
    Sim n k (StableHlo.unary x y f hx hy :: ops) (StableHlo.unary x' y' f' hx' hy' :: ops') :=
  Sim.cons sy rfl rfl (fun V V' hV => by
    rw [unary_result, unary_result]
    exact app_heq (contents_eq sx) (contents_eq sy) hf (hV _ _ _ lx sx)) h

theorem Sim.binary {f : a.ty.Contents Val → b.ty.Contents Val → y.ty.Contents Val}
    {f' : a'.ty.Contents Val → b'.ty.Contents Val → y'.ty.Contents Val} {ha hb hy ha' hb' hy'}
    (sy : Same y y' n) (sa : Same a a' a.idx.val) (la : a.idx.val < n) (sb : Same b b' b.idx.val) (lb : b.idx.val < n) (hf : HEq f f')
    (h : Sim (n + 1) k ops ops') :
    Sim n k (StableHlo.binary a b y f ha hb hy :: ops) (StableHlo.binary a' b' y' f' ha' hb' hy' :: ops') :=
  Sim.cons sy rfl rfl (fun V V' hV => by
    rw [binary_result, binary_result]
    have eb : (b.ty.Contents Val → y.ty.Contents Val) = (b'.ty.Contents Val → y'.ty.Contents Val) := by
      rw [contents_eq sb, contents_eq sy]
    exact app_heq (contents_eq sb) (contents_eq sy) (app_heq (contents_eq sa) eb hf (hV _ _ _ la sa)) (hV _ _ _ lb sb)) h

theorem Sim.ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (sy : Same y y' n) (sc : Same c c' c.idx.val) (lc : c.idx.val < n) (sa : Same a a' a.idx.val) (la : a.idx.val < n) (sb : Same b b' b.idx.val) (lb : b.idx.val < n)
    (hf : HEq f f') (h : Sim (n + 1) k ops ops') :
    Sim n k (StableHlo.ternary c a b y f hc ha hb hy :: ops) (StableHlo.ternary c' a' b' y' f' hc' ha' hb' hy' :: ops') :=
  Sim.cons sy rfl rfl (fun V V' hV => by
    rw [ternary_result, ternary_result]
    have eb : (b.ty.Contents Val → y.ty.Contents Val) = (b'.ty.Contents Val → y'.ty.Contents Val) := by
      rw [contents_eq sb, contents_eq sy]
    have ea : (a.ty.Contents Val → b.ty.Contents Val → y.ty.Contents Val) = (a'.ty.Contents Val → b'.ty.Contents Val → y'.ty.Contents Val) := by
      rw [contents_eq sa, eb]
    exact app_heq (contents_eq sb) (contents_eq sy) (app_heq (contents_eq sa) eb (app_heq (contents_eq sc) ea hf (hV _ _ _ lc sc))
      (hV _ _ _ la sa)) (hV _ _ _ lb sb)) h

theorem Sim.quaternary {f : a.ty.Contents Val → b.ty.Contents Val → c.ty.Contents Val → e.ty.Contents Val → y.ty.Contents Val}
    {f' : a'.ty.Contents Val → b'.ty.Contents Val → c'.ty.Contents Val → e'.ty.Contents Val → y'.ty.Contents Val}
    {ha hb hc he hy ha' hb' hc' he' hy'}
    (sy : Same y y' n) (sa : Same a a' a.idx.val) (la : a.idx.val < n) (sb : Same b b' b.idx.val) (lb : b.idx.val < n) (sc : Same c c' c.idx.val) (lc : c.idx.val < n)
    (se : Same e e' e.idx.val) (le : e.idx.val < n) (hf : HEq f f') (h : Sim (n + 1) k ops ops') :
    Sim n k (StableHlo.quaternary a b c e y f ha hb hc he hy :: ops) (StableHlo.quaternary a' b' c' e' y' f' ha' hb' hc' he' hy' :: ops') :=
  Sim.cons sy rfl rfl (fun V V' hV => by
    rw [quaternary_result, quaternary_result]
    have ee : (e.ty.Contents Val → y.ty.Contents Val) = (e'.ty.Contents Val → y'.ty.Contents Val) := by
      rw [contents_eq se, contents_eq sy]
    have ec : (c.ty.Contents Val → e.ty.Contents Val → y.ty.Contents Val) = (c'.ty.Contents Val → e'.ty.Contents Val → y'.ty.Contents Val) := by
      rw [contents_eq sc, ee]
    have eb : (b.ty.Contents Val → c.ty.Contents Val → e.ty.Contents Val → y.ty.Contents Val)
        = (b'.ty.Contents Val → c'.ty.Contents Val → e'.ty.Contents Val → y'.ty.Contents Val) := by
      rw [contents_eq sb, ec]
    exact app_heq (contents_eq se) (contents_eq sy) (app_heq (contents_eq sc) ee (app_heq (contents_eq sb) ec
      (app_heq (contents_eq sa) eb hf (hV _ _ _ la sa)) (hV _ _ _ lb sb)) (hV _ _ _ lc sc)) (hV _ _ _ le se)) h

theorem Sim.reshape {he hn hx hy he' hn' hx' hy'} (sy : Same y y' n) (sx : Same x x' x.idx.val) (lx : x.idx.val < n)
    (h : Sim (n + 1) k ops ops') :
    Sim n k (StableHlo.reshape (Val := Val) x y he hn hx hy :: ops) (StableHlo.reshape (Val := Val) x' y' he' hn' hx' hy' :: ops') :=
  Sim.cons sy rfl rfl (fun V V' hV => by
    rw [reshape_result, reshape_result]
    exact cast_heq_cast sx.ty sy.ty _ _ _ _ _ _ (hV _ _ _ lx sx)) h

end Builders

end Cert.Twin

end
-- ==== Proof.Samples.lean ====
/- The kernel's program and the reference draw the same words: their first operations are the same. -/
module

public import proofs.«01_k».proof.Proof.RefLine
public import proofs.«01_k».proof.Proof.Twin
public import proofs.«01_k».proof.Proof.Gen.KernelIdeal.Launch

@[expose] public section

set_option maxRecDepth 8000

noncomputable section

namespace Cert.Samples

open Idealize.ShloMosaic Cert.Twin

variable {F : FTy → Type} [FloatOps F]

set_option maxHeartbeats 40000000 in
/-- The operations up to the draw, in the two programs. -/
theorem sim_draw :
    Sim 5 296
      (KernelIdeal.Gen.hostOps0 (F := F) ++ (KernelIdeal.Gen.hostOps0_1 ++ (KernelIdeal.Gen.hostOps0_2 ++ KernelIdeal.Gen.hostOps0_3)))
      (ReferenceIdeal.Line.opsKey (F := F) ++ (ReferenceIdeal.Line.opsGumbel ++ (ReferenceIdeal.Line.opsScores ++ ReferenceIdeal.Line.opsArgmax))) := by
  refine Sim.append (k := 16) ?_ (Sim.append (k := 288) ?_ (Sim.append (k := 291) ?_ ?_))
  all_goals repeat' first
    | with_reducible exact Sim.nil
    | (with_reducible refine Sim.binary ?_ ?_ ?_ ?_ ?_ ?_ ?_) <;> [exact ⟨rfl, rfl, rfl, rfl, rfl⟩; exact ⟨rfl, rfl, rfl, rfl, rfl⟩; decide; exact ⟨rfl, rfl, rfl, rfl, rfl⟩; decide; exact HEq.rfl; skip]
    | (with_reducible refine Sim.unary ?_ ?_ ?_ ?_ ?_) <;> [exact ⟨rfl, rfl, rfl, rfl, rfl⟩; exact ⟨rfl, rfl, rfl, rfl, rfl⟩; decide; exact HEq.rfl; skip]
    | (with_reducible refine Sim.nullary ?_ ?_ ?_) <;> [exact ⟨rfl, rfl, rfl, rfl, rfl⟩; exact HEq.rfl; skip]
    | (with_reducible refine Sim.reshape ?_ ?_ ?_ ?_) <;> [exact ⟨rfl, rfl, rfl, rfl, rfl⟩; exact ⟨rfl, rfl, rfl, rfl, rfl⟩; decide; skip]
    | (with_reducible refine Sim.ternary ?_ ?_ ?_ ?_ ?_ ?_ ?_ ?_ ?_) <;> [exact ⟨rfl, rfl, rfl, rfl, rfl⟩; exact ⟨rfl, rfl, rfl, rfl, rfl⟩; decide; exact ⟨rfl, rfl, rfl, rfl, rfl⟩; decide; exact ⟨rfl, rfl, rfl, rfl, rfl⟩; decide; exact HEq.rfl; skip]
    | (with_reducible refine Sim.quaternary ?_ ?_ ?_ ?_ ?_ ?_ ?_ ?_ ?_ ?_ ?_) <;> [exact ⟨rfl, rfl, rfl, rfl, rfl⟩; exact ⟨rfl, rfl, rfl, rfl, rfl⟩; decide; exact ⟨rfl, rfl, rfl, rfl, rfl⟩; decide; exact ⟨rfl, rfl, rfl, rfl, rfl⟩; decide; exact ⟨rfl, rfl, rfl, rfl, rfl⟩; decide; exact HEq.rfl; skip]

end Cert.Samples

end
-- ==== Proof.Value.lean ====
/- The two programs' results are one value, when the targets are words and no noise weight is negative. -/
module

public import proofs.«01_k».proof.Defs
public import proofs.«01_k».proof.Proof.KValue
public import proofs.«01_k».proof.Proof.RefValue
public import proofs.«01_k».proof.Proof.Draw
public import proofs.«01_k».proof.Proof.Samples

@[expose] public section

noncomputable section

namespace Cert.Value

open Idealize.ShloMosaic Idealize.ShloMosaic.TcCoe Idealize.SL.Sem Idealize.ShloMosaic.StableHlo
open Idealize.ShloMosaic.Pointwise Cert.Twin

/-- The side conditions of the precondition's operations. -/
theorem pre_facts : Cert.Pre_in_vocabulary.Facts where
  bcast_S_S16384 := by decide
  bcast_S_S1000 := by decide

/-- A number from 0 to 999 is a word's. -/
theorem word_of_bounds (v : BitVec 32) (h : IntOp.andi (IntOp.cmpi .sge v 0#32) (IntOp.cmpi .slt v 1000#32) = 1#1) :
    ∃ w : Fin 1000, v = BitVec.ofNat 32 w.val := by
  have e : (1000#32).toInt = 1000 := by decide
  have hb : ∀ p q : Bool, IntOp.andi (BitVec.ofBool p) (BitVec.ofBool q) = 1#1 → p = true ∧ q = true := by decide
  have h' := hb _ _ h
  simp only [BitVec.sle, BitVec.slt, BitVec.toInt_zero, e, decide_eq_true_eq] at h'
  obtain ⟨h0, h1⟩ := h'
  refine ⟨⟨v.toInt.toNat, by omega⟩, BitVec.eq_of_toInt_eq ?_⟩
  rw [Take.toInt_word]
  show v.toInt = (v.toInt.toNat : Int)
  omega

/-- A value that passes the comparison with zero is not negative. -/
theorem nonneg_of_oge (v : EReal) (h : FloatOps.cmpf (F := Ideal) (φ := .f32) .oge v (Ideal.ofBits .f32 0x00000000#32) = 1#1) : 0 ≤ v := by
  by_contra hv
  have : FloatOps.cmpf (F := Ideal) (φ := .f32) .oge v (Ideal.ofBits .f32 0x00000000#32) = 0#1 := by
    rw [show Ideal.ofBits .f32 0x00000000#32 = 0 by simp]
    show BitVec.ofBool (decide (0 ≤ v)) = 0#1
    rw [decide_eq_false hv]
    rfl
  rw [this] at h
  exact absurd h (by decide)

/-- Two references at one place of main memory are one reference. -/
theorem ref_eq {sig : RefSig} {x y : Ref sig .tc} (h1 : x.space = .hbm) (h2 : y.space = .hbm) (h : x.idx.val = y.idx.val) : x = y := by
  rcases x with ⟨sp, ix, nx⟩
  rcases y with ⟨sp', iy, ny⟩
  simp only at h1 h2 h
  subst h1
  subst h2
  have : ix = iy := Fin.ext h
  subst this
  rfl

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two programs' arguments are equal. -/
structure SameArgs : Prop where
  arg0 : m' ((c.tc : Thread ReferenceIdeal.nD ReferenceIdeal.τ).loc ReferenceIdeal.main_arg0) = m ((c.tc : Thread KernelIdeal.nD KernelIdeal.τ).loc KernelIdeal.main_arg0)
  arg1 : m' ((c.tc : Thread ReferenceIdeal.nD ReferenceIdeal.τ).loc ReferenceIdeal.main_arg1) = m ((c.tc : Thread KernelIdeal.nD KernelIdeal.τ).loc KernelIdeal.main_arg1)
  arg2 : m' ((c.tc : Thread ReferenceIdeal.nD ReferenceIdeal.τ).loc ReferenceIdeal.main_arg2) = m ((c.tc : Thread KernelIdeal.nD KernelIdeal.τ).loc KernelIdeal.main_arg2)
  arg3 : m' ((c.tc : Thread ReferenceIdeal.nD ReferenceIdeal.τ).loc ReferenceIdeal.main_arg3) = m ((c.tc : Thread KernelIdeal.nD KernelIdeal.τ).loc KernelIdeal.main_arg3)
  arg4 : m' ((c.tc : Thread ReferenceIdeal.nD ReferenceIdeal.τ).loc ReferenceIdeal.main_arg4) = m ((c.tc : Thread KernelIdeal.nD KernelIdeal.τ).loc KernelIdeal.main_arg4)

/-- Memories with equal arguments agree on their first five buffers. -/
theorem agree (h : SameArgs m m' c) : Agree 5 (fun b => m (c, b)) (launchContents m' c) := by
  intro x x' i hi hx
  have hk : ∀ y : Ref KernelIdeal.sig .tc, y.space = .hbm → y.idx.val = i → x = y := fun y hs hy =>
    ref_eq hx.space hs (hx.idx.trans hy.symm)
  have hr : ∀ y : Ref ReferenceIdeal.sig .tc, y.space = .hbm → y.idx.val = i → x' = y := fun y hs hy =>
    ref_eq hx.space' hs (hx.idx'.trans hy.symm)
  match i, hi with
  | 0, _ => rw [hk KernelIdeal.main_arg0 rfl rfl, hr ReferenceIdeal.main_arg0 rfl rfl]; exact heq_of_eq h.arg0.symm
  | 1, _ => rw [hk KernelIdeal.main_arg1 rfl rfl, hr ReferenceIdeal.main_arg1 rfl rfl]; exact heq_of_eq h.arg1.symm
  | 2, _ => rw [hk KernelIdeal.main_arg2 rfl rfl, hr ReferenceIdeal.main_arg2 rfl rfl]; exact heq_of_eq h.arg2.symm
  | 3, _ => rw [hk KernelIdeal.main_arg3 rfl rfl, hr ReferenceIdeal.main_arg3 rfl rfl]; exact heq_of_eq h.arg3.symm
  | 4, _ => rw [hk KernelIdeal.main_arg4 rfl rfl, hr ReferenceIdeal.main_arg4 rfl rfl]; exact heq_of_eq h.arg4.symm

/-- The reference's memory after the draw. -/
def drawn' : Valuation ReferenceIdeal.τ ReferenceIdeal.sig (Elt Ideal) :=
  after (ReferenceIdeal.Line.opsKey ++ (ReferenceIdeal.Line.opsGumbel ++ (ReferenceIdeal.Line.opsScores ++ ReferenceIdeal.Line.opsArgmax))) (launchContents m' c)

theorem samples_eq (h : SameArgs m m' c) :
    KernelIdeal.Block.drawn m c (Proc.devRef .tc KernelIdeal.main_v12) = drawn' m' c (Proc.devRef .tc ReferenceIdeal.main_v12) :=
  eq_of_heq (Samples.sim_draw _ _ (agree m m' c h) KernelIdeal.main_v12 ReferenceIdeal.main_v12 295 (by decide) ⟨rfl, rfl, rfl, rfl, rfl⟩)

theorem samples_word (j : ReferenceIdeal.S16384x50.Idx) :
    ReferenceIdeal.Line.IsWord (drawn' m' c (Proc.devRef .tc ReferenceIdeal.main_v12) j) := by
  unfold drawn'
  simp only [ReferenceIdeal.Line.after_append]
  exact ReferenceIdeal.Line.samples_word _ j

theorem drawn'_arg (x : Ref ReferenceIdeal.sig .tc) (hx : x.idx.val < 5) :
    drawn' m' c (Proc.devRef .tc x) = m' ((c.tc : Thread ReferenceIdeal.nD ReferenceIdeal.τ).loc x) := by
  unfold drawn'
  simp only [ReferenceIdeal.Line.after_append]
  rw [ReferenceIdeal.Line.Steps.keep ReferenceIdeal.Line.opsArgmax_steps _ x (by omega),
    ReferenceIdeal.Line.Steps.keep ReferenceIdeal.Line.opsScores_steps _ x (by omega),
    ReferenceIdeal.Line.Steps.keep ReferenceIdeal.Line.opsGumbel_steps _ x (by omega),
    ReferenceIdeal.Line.Steps.keep ReferenceIdeal.Line.opsKey_steps _ x (by omega)]

/-- The kernel's result is the reference's. -/
theorem value_eq (h : SameArgs m m' c)
    (ht : ∀ n : Fin 16384, ∃ w : Fin 1000, m ((c.tc : Thread KernelIdeal.nD KernelIdeal.τ).loc KernelIdeal.main_arg1) (ix1 n : KernelIdeal.S16384.Idx) = BitVec.ofNat 32 w.val)
    (hn : ∀ w : Fin 1000, (0 : EReal) ≤ m ((c.tc : Thread KernelIdeal.nD KernelIdeal.τ).loc KernelIdeal.main_arg4) (ix1 w : KernelIdeal.S1000.Idx)) :
    ReferenceIdeal.Line.final m' c (Proc.devRef .tc ReferenceIdeal.main_v43)
      = (Host.divf (Host.negf (shapeCast KernelIdeal.S_ (KernelIdeal.Value.reg_main_v20 m c) KernelIdeal.Gen.facts.shapeCasts_S1x1_S_))
          (constant KernelIdeal.S_ .f32 0x46800000#32) : FVec Ideal KernelIdeal.S_ .f32) := by
  choose wt hwt using ht
  have hs := fun n i => samples_word m' c (ix2 n i : ReferenceIdeal.S16384x50.Idx)
  choose ws hws using hs
  let wd : Fin 16384 → Fin 51 → Fin 1000 := fun n k => Fin.cases (wt n) (ws n) k
  unfold ReferenceIdeal.Line.final
  rw [ReferenceIdeal.Line.ops_eq, ReferenceIdeal.Line.after_append]
  funext j
  refine (ReferenceIdeal.Line.scoring_apply (drawn' m' c)
    (fun n e => m ((c.tc : Thread KernelIdeal.nD KernelIdeal.τ).loc KernelIdeal.main_arg0) (ix2 n e : KernelIdeal.S16384x64.Idx))
    (fun w e => m ((c.tc : Thread KernelIdeal.nD KernelIdeal.τ).loc KernelIdeal.main_arg2) (ix2 w e : KernelIdeal.S1000x64.Idx))
    (fun w => m ((c.tc : Thread KernelIdeal.nD KernelIdeal.τ).loc KernelIdeal.main_arg3) (ix1 w : KernelIdeal.S1000.Idx))
    (fun w => m ((c.tc : Thread KernelIdeal.nD KernelIdeal.τ).loc KernelIdeal.main_arg4) (ix1 w : KernelIdeal.S1000.Idx))
    wd (fun n e => ?_) (fun n => ?_) (fun w e => ?_) (fun w => ?_) (fun w => ?_) hn (fun n i => hws n i) j).trans
    (KernelIdeal.Block.value_apply m c _ _ _ _ wd (fun n e => rfl) hwt (fun w e => rfl) (fun w => rfl) (fun w => rfl) (fun n i => ?_) j).symm
  · rw [drawn'_arg m' c _ (by decide), h.arg0]
  · rw [drawn'_arg m' c _ (by decide), h.arg1]; exact hwt n
  · rw [drawn'_arg m' c _ (by decide), h.arg2]
  · rw [drawn'_arg m' c _ (by decide), h.arg3]
  · rw [drawn'_arg m' c _ (by decide), h.arg4]
  · rw [samples_eq m m' c h]; exact hws n i

end

/-- The value claim. -/
theorem algebraic : Cert.algebraic_KernelIdeal_ReferenceIdeal_pre_in_vocabulary (hKernelIdeal := Cert.KernelIdeal.Gen.facts)
    (hReferenceIdeal := Cert.ReferenceIdeal.Gen.facts) (hPre_in_vocabulary := pre_facts) := by
  intro m g m' g' hpre hargs
  have heq : ∀ c : Dev KernelIdeal.nD, ReferenceIdeal.Line.final m' c (Proc.devRef .tc ReferenceIdeal.main_v43) = _ := fun c =>
    value_eq m m' c ⟨(hargs c).1, (hargs c).2.1, (hargs c).2.2.1, (hargs c).2.2.2.1, (hargs c).2.2.2.2⟩
      (fun n => word_of_bounds _ (congrFun (hpre c).1 (ix1 n)))
      (fun w => nonneg_of_oge _ (congrFun (hpre c).2 (ix1 w)))
  refine ⟨fun c => ReferenceIdeal.Line.final m' c (Proc.devRef .tc ReferenceIdeal.main_v43), ?_, ReferenceIdeal.Line.run m' g'⟩
  refine (θ_run _ _ _).mono (fun r h c => ⟨(h c).1.trans (heq c).symm, (h c).2⟩) (KernelIdeal.Value.run m g)

end Cert.Value

end
-- ==== Proof.lean ====
/- Both programs end with their arguments kept, and their results are one value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Read
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Value.pre_facts,
  fun m ρ _ => Cert.Kernel.Gen.frame m ρ, fun m ρ _ => Cert.KernelIdeal.Gen.frame m ρ, fun m ρ _ => Cert.KernelIdeal.Gen.frame m ρ,
  fun m ρ _ => Cert.ReferenceIdeal.Line.frame m ρ, fun m ρ _ => Cert.ReferenceIdeal.Line.frame m ρ, trivial, Cert.Value.algebraic⟩

end Cert.Proof

end
